-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart_one_nearest [hPre_apart_one_nearest : Cert.Pre_apart_one_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_apart_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart_one_nearest [hPre_apart_one_nearest : Cert.Pre_apart_one_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_apart_one_nearest [hKernelIdeal : Cert.KernelIdeal.Facts] [hPre_apart_one_nearest : Cert.Pre_apart_one_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart_one_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_apart_one_nearest [hReferenceIdeal : Cert.ReferenceIdeal.Facts] [hPre_apart_one_nearest : Cert.Pre_apart_one_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart_one_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "near_sq" .f32 0x3B23D70A#32 ((1 / 400 : ℝ) : EReal)
  ∧ IdealRules.named_const.Statement Cert.KernelIdeal.κ "far_sq" .f32 0x3D23D70A#32 ((1 / 25 : ℝ) : EReal)

def algebraic_KernelIdeal_ReferenceIdeal_pre_apart_one_nearest [hKernelIdeal : Cert.KernelIdeal.Facts] [hReferenceIdeal : Cert.ReferenceIdeal.Facts] [hPre_apart_one_nearest : Cert.Pre_apart_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart_one_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_apart_one_nearest : Cert.Pre_apart_one_nearest.Facts),
    quiescent_Kernel (hKernel := hKernel)
    ∧ quiescent_KernelIdeal (hKernelIdeal := hKernelIdeal)
    ∧ quiescent_KernelIdeal_pre_apart_one_nearest (hKernelIdeal := hKernelIdeal) (hPre_apart_one_nearest := hPre_apart_one_nearest)
    ∧ quiescent_ReferenceIdeal (hReferenceIdeal := hReferenceIdeal)
    ∧ quiescent_ReferenceIdeal_pre_apart_one_nearest (hReferenceIdeal := hReferenceIdeal) (hPre_apart_one_nearest := hPre_apart_one_nearest)
    ∧ preserves_Kernel_KernelIdeal
    ∧ algebraic_KernelIdeal_ReferenceIdeal_pre_apart_one_nearest (hKernelIdeal := hKernelIdeal) (hReferenceIdeal := hReferenceIdeal) (hPre_apart_one_nearest := hPre_apart_one_nearest)
-- ==== Pre_apart_one_nearest.lean ====
abbrev S4x3x2048x6 : Shape := ⟨4, ![4, 3, 2048, 6]⟩
abbrev S4x1x2048x3 : Shape := ⟨4, ![4, 1, 2048, 3]⟩
abbrev S12x64 : Shape := ⟨2, ![12, 64]⟩
abbrev S64 : Shape := ⟨1, ![64]⟩
abbrev S64x3 : Shape := ⟨2, ![64, 3]⟩
abbrev S3 : Shape := ⟨1, ![3]⟩
abbrev S4x2048x3 : Shape := ⟨3, ![4, 2048, 3]⟩
abbrev S_ : Shape := ⟨0, ![]⟩
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩
abbrev S2048 : Shape := ⟨1, ![2048]⟩
abbrev S1x1x2048 : Shape := ⟨3, ![1, 1, 2048]⟩
abbrev S1x2048x1 : Shape := ⟨3, ![1, 2048, 1]⟩
abbrev S4x2x2048x6 : Shape := ⟨4, ![4, 2, 2048, 6]⟩

class Facts : Prop where
  slices_S4x3x2048x6_S4x1x2048x3_0_1_0_0 : S4x3x2048x6.Slices ![0, 1, 0, 0] S4x1x2048x3
  shapeCasts_S4x1x2048x3_S4x2048x3 : S4x1x2048x3.ShapeCasts S4x2048x3
  reducesTo_S4x2048x3_S4x2048_d2 : S4x2048x3.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  bcast_S2048_S1x1x2048_2 : S2048.BroadcastsInDim S1x1x2048 (![2] : Fin 1 → Fin S1x1x2048.rank)
  reducesTo_S4x2048x2048_S4x2048_d2 : S4x2048x2048.ReducesTo [2] S4x2048
  bcast_S1x1x2048_S4x2048x2048_0_1_2 : S1x1x2048.BroadcastsInDim S4x2048x2048 (![0, 1, 2] : Fin 3 → Fin S4x2048x2048.rank)
  reducesTo_S4x2048_S2048_d0 : S4x2048.ReducesTo [0] S2048
  bcast_S_S2048 : S_.BroadcastsInDim S2048 (![] : Fin 0 → Fin S2048.rank)
  bcast_S2048_S1x2048x1_1 : S2048.BroadcastsInDim S1x2048x1 (![1] : Fin 1 → Fin S1x2048x1.rank)
  bcast_S_S1x1x2048 : S_.BroadcastsInDim S1x1x2048 (![] : Fin 0 → Fin S1x1x2048.rank)
  bcast_S1x2048x1_S4x2048x2048_0_1_2 : S1x2048x1.BroadcastsInDim S4x2048x2048 (![0, 1, 2] : Fin 3 → Fin S4x2048x2048.rank)
  slices_S4x3x2048x6_S4x2x2048x6_0_1_0_0 : S4x3x2048x6.Slices ![0, 1, 0, 0] S4x2x2048x6
  bcast_S_S4x2x2048x6 : S_.BroadcastsInDim S4x2x2048x6 (![] : Fin 0 → Fin S4x2x2048x6.rank)
  reducesTo_S4x2x2048x6_S_d0_1_2_3 : S4x2x2048x6.ReducesTo [0, 1, 2, 3] S_
  bcast_S_S4x1x2048x3 : S_.BroadcastsInDim S4x1x2048x3 (![] : Fin 0 → Fin S4x1x2048x3.rank)
  reducesTo_S4x1x2048x3_S_d0_1_2_3 : S4x1x2048x3.ReducesTo [0, 1, 2, 3] S_
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  dot_S4x2048x3_S4x2048x3_S4x2048x2048_2_2_1_1_0_0_wf : DotDims.WF S4x2048x3 S4x2048x3 S4x2048x2048 [2] [2] [1] [1] [0] [0]

variable [Facts]

def dot_S4x2048x3_S4x2048x3_S4x2048x2048_2_2_1_1_0_0 : DotDims S4x2048x3 S4x2048x3 S4x2048x2048 where
  lhsContracting := [2]
  rhsContracting := [2]
  lhsNonContracting := [1]
  rhsNonContracting := [1]
  lhsBatch := [0]
  rhsBatch := [0]
  wf := dot_S4x2048x3_S4x2048x3_S4x2048x2048_2_2_1_1_0_0_wf
def fn_where {F : FTy → Type} [FloatOps F] (arg0 : IVec S4x2048x2048 1) (arg1 : IVec S1x1x2048 32) (arg2 : IVec S_ 32) : IVec S4x2048x2048 32 :=
  let v0 : IVec S_ 32 := id arg2
  let v1 : IVec S4x2048x2048 32 := broadcastInDim S4x2048x2048 ![0, 1, 2] bcast_S1x1x2048_S4x2048x2048_0_1_2 arg1
  let v2 : IVec S4x2048x2048 32 := broadcastInDim S4x2048x2048 ![] bcast_S_S4x2048x2048 v0
  let v3 : IVec S4x2048x2048 32 := select arg0 v1 v2
  v3

def fn_part4 {F : FTy → Type} [FloatOps F] (main_arg5 : FVec F S64x3 .f32) (main_arg6 : FVec F S3 .f32) (main_v52 : IVec S4x2048x2048 1) (main_v57 : IVec S_ 1) (main_v61 : IVec S_ 1) (main_v65 : IVec S_ 1) (main_v69 : IVec S_ 1) (main_v72 : IVec S64 1) (main_c_20 : IVec S_ 1) : IVec S4x2048x2048 1 :=
  let main_v73 : IVec S_ 1 := (fun x v => Host.reduce IntOp.andi x v reducesTo_S64_S_d0 h_S_) main_v72 main_c_20
  let main_v74 : FVec F S64x3 .f32 := Host.absf main_arg5
  let main_cst_21 : FVec F S_ .f32 := constant S_ .f32 0x7F800000#32
  let main_v75 : FVec F S64x3 .f32 := broadcastInDim S64x3 ![] bcast_S_S64x3 main_cst_21
  let main_v76 : IVec S64x3 1 := cmpf .olt main_v74 main_v75
  let main_c_22 : IVec S_ 1 := constantI S_ 1 1#1
  let main_v77 : IVec S_ 1 := (fun x v => Host.reduce IntOp.andi x v reducesTo_S64x3_S_d0_1 h_S_) main_v76 main_c_22
  let main_v78 : FVec F S3 .f32 := Host.absf main_arg6
  let main_cst_23 : FVec F S_ .f32 := constant S_ .f32 0x7F800000#32
  let main_v79 : FVec F S3 .f32 := broadcastInDim S3 ![] bcast_S_S3 main_cst_23
  let main_v80 : IVec S3 1 := cmpf .olt main_v78 main_v79
  let main_c_24 : IVec S_ 1 := constantI S_ 1 1#1
  let main_v81 : IVec S_ 1 := (fun x v => Host.reduce IntOp.andi x v reducesTo_S3_S_d0 h_S_) main_v80 main_c_24
  let main_v82 : IVec S_ 1 := andi main_v57 main_v61
  let main_v83 : IVec S_ 1 := andi main_v82 main_v65
  let main_v84 : IVec S_ 1 := andi main_v83 main_v69
  let main_v85 : IVec S_ 1 := andi main_v84 main_v73
  let main_v86 : IVec S_ 1 := andi main_v85 main_v77
  let main_v87 : IVec S_ 1 := andi main_v86 main_v81
  let main_v88 : IVec S4x2048x2048 1 := broadcastInDim S4x2048x2048 ![] bcast_S_S4x2048x2048 main_v87
  let main_v89 : IVec S4x2048x2048 1 := andi main_v52 main_v88
  main_v89

def fn_part3 {F : FTy → Type} [FloatOps F] (main_arg1 : FVec F S4x1x2048x3 .f32) (main_arg2 : FVec F S4x1x2048x3 .f32) (main_arg3 : FVec F S12x64 .f32) (main_arg4 : FVec F S64 .f32) (main_arg5 : FVec F S64x3 .f32) (main_arg6 : FVec F S3 .f32) (main_v52 : IVec S4x2048x2048 1) (main_v56 : IVec S4x2x2048x6 1) (main_c_12 : IVec S_ 1) : IVec S4x2048x2048 1 :=
  let main_v57 : IVec S_ 1 := (fun x v => Host.reduce IntOp.andi x v reducesTo_S4x2x2048x6_S_d0_1_2_3 h_S_) main_v56 main_c_12
  let main_v58 : FVec F S4x1x2048x3 .f32 := Host.absf main_arg1
  let main_cst_13 : FVec F S_ .f32 := constant S_ .f32 0x7F800000#32
  let main_v59 : FVec F S4x1x2048x3 .f32 := broadcastInDim S4x1x2048x3 ![] bcast_S_S4x1x2048x3 main_cst_13
  let main_v60 : IVec S4x1x2048x3 1 := cmpf .olt main_v58 main_v59
  let main_c_14 : IVec S_ 1 := constantI S_ 1 1#1
  let main_v61 : IVec S_ 1 := (fun x v => Host.reduce IntOp.andi x v reducesTo_S4x1x2048x3_S_d0_1_2_3 h_S_) main_v60 main_c_14
  let main_v62 : FVec F S4x1x2048x3 .f32 := Host.absf main_arg2
  let main_cst_15 : FVec F S_ .f32 := constant S_ .f32 0x7F800000#32
  let main_v63 : FVec F S4x1x2048x3 .f32 := broadcastInDim S4x1x2048x3 ![] bcast_S_S4x1x2048x3 main_cst_15
  let main_v64 : IVec S4x1x2048x3 1 := cmpf .olt main_v62 main_v63
  let main_c_16 : IVec S_ 1 := constantI S_ 1 1#1
  let main_v65 : IVec S_ 1 := (fun x v => Host.reduce IntOp.andi x v reducesTo_S4x1x2048x3_S_d0_1_2_3 h_S_) main_v64 main_c_16
  let main_v66 : FVec F S12x64 .f32 := Host.absf main_arg3
  let main_cst_17 : FVec F S_ .f32 := constant S_ .f32 0x7F800000#32
  let main_v67 : FVec F S12x64 .f32 := broadcastInDim S12x64 ![] bcast_S_S12x64 main_cst_17
  let main_v68 : IVec S12x64 1 := cmpf .olt main_v66 main_v67
  let main_c_18 : IVec S_ 1 := constantI S_ 1 1#1
  let main_v69 : IVec S_ 1 := (fun x v => Host.reduce IntOp.andi x v reducesTo_S12x64_S_d0_1 h_S_) main_v68 main_c_18
  let main_v70 : FVec F S64 .f32 := Host.absf main_arg4
  let main_cst_19 : FVec F S_ .f32 := constant S_ .f32 0x7F800000#32
  let main_v71 : FVec F S64 .f32 := broadcastInDim S64 ![] bcast_S_S64 main_cst_19
  let main_v72 : IVec S64 1 := cmpf .olt main_v70 main_v71
  let main_c_20 : IVec S_ 1 := constantI S_ 1 1#1
  fn_part4 (F := F) main_arg5 main_arg6 main_v52 main_v57 main_v61 main_v65 main_v69 main_v72 main_c_20

def fn_part2 {F : FTy → Type} [FloatOps F] (main_arg0 : FVec F S4x3x2048x6 .f32) (main_arg1 : FVec F S4x1x2048x3 .f32) (main_arg2 : FVec F S4x1x2048x3 .f32) (main_arg3 : FVec F S12x64 .f32) (main_arg4 : FVec F S64 .f32) (main_arg5 : FVec F S64x3 .f32) (main_arg6 : FVec F S3 .f32) (main_v17 : FVec F S4x2048x2048 .f32) (main_v19 : IVec S1x1x2048 32) (main_v23 : FVec F S4x2048 .f32) (main_v26 : IVec S4x2048x2048 1) (main_v38 : IVec S4x2048x2048 1) : IVec S4x2048x2048 1 :=
  let main_cst_7 : FVec F S_ .f32 := constant S_ .f32 0x7F800000#32
  let main_v39 : FVec F S2048 .f32 := (fun x v => Host.reduce FloatOps.minimumf x v reducesTo_S4x2048_S2048_d0 h_S_) main_v23 main_cst_7
  let main_cst_8 : FVec F S_ .f32 := constant S_ .f32 0x3F800000#32
  let main_cst_9 : FVec F S_ .f32 := constant S_ .f32 0x41A00000#32
  let main_v40 : FVec F S_ .f32 := Host.divf main_cst_8 main_cst_9
  let main_v41 : FVec F S2048 .f32 := broadcastInDim S2048 ![] bcast_S_S2048 main_v40
  let main_v42 : IVec S2048 1 := cmpf .oge main_v39 main_v41
  let main_v43 : IVec S1x2048x1 1 := broadcastInDim S1x2048x1 ![1] bcast_S2048_S1x2048x1_1 main_v42
  let main_v44 : FVec F S1x1x2048 .f32 := sitofp .f32 main_v19
  let main_cst_10 : FVec F S_ .f32 := constant S_ .f32 0x0DA24260#32
  let main_v45 : FVec F S1x1x2048 .f32 := broadcastInDim S1x1x2048 ![] bcast_S_S1x1x2048 main_cst_10
  let main_v46 : FVec F S1x1x2048 .f32 := mulf main_v44 main_v45
  let main_v47 : FVec F S4x2048x2048 .f32 := broadcastInDim S4x2048x2048 ![0, 1, 2] bcast_S1x1x2048_S4x2048x2048_0_1_2 main_v46
  let main_v48 : IVec S4x2048x2048 1 := cmpf .oge main_v17 main_v47
  let main_v49 : IVec S4x2048x2048 1 := ori main_v26 main_v38
  let main_v50 : IVec S4x2048x2048 1 := broadcastInDim S4x2048x2048 ![0, 1, 2] bcast_S1x2048x1_S4x2048x2048_0_1_2 main_v43
  let main_v51 : IVec S4x2048x2048 1 := ori main_v49 main_v50
  let main_v52 : IVec S4x2048x2048 1 := andi main_v48 main_v51
  let main_v53 : FVec F S4x2x2048x6 .f32 := (extractStridedSlice S4x2x2048x6 ![0, 1, 0, 0] · slices_S4x3x2048x6_S4x2x2048x6_0_1_0_0) main_arg0
  let main_v54 : FVec F S4x2x2048x6 .f32 := Host.absf main_v53
  let main_cst_11 : FVec F S_ .f32 := constant S_ .f32 0x7F800000#32
  let main_v55 : FVec F S4x2x2048x6 .f32 := broadcastInDim S4x2x2048x6 ![] bcast_S_S4x2x2048x6 main_cst_11
  let main_v56 : IVec S4x2x2048x6 1 := cmpf .olt main_v54 main_v55
  let main_c_12 : IVec S_ 1 := constantI S_ 1 1#1
  fn_part3 (F := F) main_arg1 main_arg2 main_arg3 main_arg4 main_arg5 main_arg6 main_v52 main_v56 main_c_12

def fn_part1 {F : FTy → Type} [FloatOps F] (main_arg0 : FVec F S4x3x2048x6 .f32) (main_arg1 : FVec F S4x1x2048x3 .f32) (main_arg2 : FVec F S4x1x2048x3 .f32) (main_arg3 : FVec F S12x64 .f32) (main_arg4 : FVec F S64 .f32) (main_arg5 : FVec F S64x3 .f32) (main_arg6 : FVec F S3 .f32) (main_v17 : FVec F S4x2048x2048 .f32) (main_v19 : IVec S1x1x2048 32) : IVec S4x2048x2048 1 :=
  let main_cst_3 : FVec F S_ .f32 := constant S_ .f32 0x2B8CBCCC#32
  let main_v20 : FVec F S4x2048x2048 .f32 := broadcastInDim S4x2048x2048 ![] bcast_S_S4x2048x2048 main_cst_3
  let main_v21 : FVec F S4x2048x2048 .f32 := maximumf main_v17 main_v20
  let main_v22 : FVec F S4x2048x2048 .f32 := Host.sqrt main_v21
  let main_cst_4 : FVec F S_ .f32 := constant S_ .f32 0x7F800000#32
  let main_v23 : FVec F S4x2048 .f32 := (fun x v => Host.reduce FloatOps.minimumf x v reducesTo_S4x2048x2048_S4x2048_d2 h_S_) main_v22 main_cst_4
  let main_v24 : FVec F S4x2048x1 .f32 := broadcastInDim S4x2048x1 ![0, 1] bcast_S4x2048_S4x2048x1_0_1 main_v23
  let main_v25 : FVec F S4x2048x2048 .f32 := broadcastInDim S4x2048x2048 ![0, 1, 2] bcast_S4x2048x1_S4x2048x2048_0_1_2 main_v24
  let main_v26 : IVec S4x2048x2048 1 := cmpf .ogt main_v22 main_v25
  let main_v27 : IVec S2048 32 := iotaInDim S2048 32 0
  let main_v28 : IVec S1x1x2048 32 := broadcastInDim S1x1x2048 ![2] bcast_S2048_S1x1x2048_2 main_v27
  let main_cst_5 : FVec F S_ .f32 := constant S_ .f32 0x7F800000#32
  let main_v29 : FVec F S4x2048 .f32 := (fun x v => Host.reduce FloatOps.minimumf x v reducesTo_S4x2048x2048_S4x2048_d2 h_S_) main_v22 main_cst_5
  let main_v30 : FVec F S4x2048x1 .f32 := broadcastInDim S4x2048x1 ![0, 1] bcast_S4x2048_S4x2048x1_0_1 main_v29
  let main_v31 : FVec F S4x2048x2048 .f32 := broadcastInDim S4x2048x2048 ![0, 1, 2] bcast_S4x2048x1_S4x2048x2048_0_1_2 main_v30
  let main_v32 : IVec S4x2048x2048 1 := cmpf .oeq main_v22 main_v31
  let main_c : IVec S_ 32 := constantI S_ 32 2048#32
  let main_v33 : IVec S4x2048x2048 32 := fn_where (F := F) main_v32 main_v28 main_c
  let main_c_6 : IVec S_ 32 := constantI S_ 32 2147483647#32
  let main_v34 : IVec S4x2048 32 := (fun x v => Host.reduce IntOp.minsi x v reducesTo_S4x2048x2048_S4x2048_d2 h_S_) main_v33 main_c_6
  let main_v35 : IVec S4x2048x1 32 := broadcastInDim S4x2048x1 ![0, 1] bcast_S4x2048_S4x2048x1_0_1 main_v34
  let main_v36 : IVec S4x2048x2048 32 := broadcastInDim S4x2048x2048 ![0, 1, 2] bcast_S1x1x2048_S4x2048x2048_0_1_2 main_v19
  let main_v37 : IVec S4x2048x2048 32 := broadcastInDim S4x2048x2048 ![0, 1, 2] bcast_S4x2048x1_S4x2048x2048_0_1_2 main_v35
  let main_v38 : IVec S4x2048x2048 1 := cmpi .eq main_v36 main_v37
  fn_part2 (F := F) main_arg0 main_arg1 main_arg2 main_arg3 main_arg4 main_arg5 main_arg6 main_v17 main_v19 main_v23 main_v26 main_v38

def fn {F : FTy → Type} [FloatOps F] (main_arg0 : FVec F S4x3x2048x6 .f32) (main_arg1 : FVec F S4x1x2048x3 .f32) (main_arg2 : FVec F S4x1x2048x3 .f32) (main_arg3 : FVec F S12x64 .f32) (main_arg4 : FVec F S64 .f32) (main_arg5 : FVec F S64x3 .f32) (main_arg6 : FVec F S3 .f32) : IVec S4x2048x2048 1 :=
  let main_v0 : FVec F S4x1x2048x3 .f32 := (extractStridedSlice S4x1x2048x3 ![0, 1, 0, 0] · slices_S4x3x2048x6_S4x1x2048x3_0_1_0_0) main_arg0
  let main_v1 : FVec F S4x2048x3 .f32 := shapeCast S4x2048x3 main_v0 shapeCasts_S4x1x2048x3_S4x2048x3
  let main_v2 : FVec F S4x2048x3 .f32 := shapeCast S4x2048x3 main_arg1 shapeCasts_S4x1x2048x3_S4x2048x3
  let main_v3 : FVec F S4x2048x3 .f32 := mulf main_v2 main_v2
  let main_cst : FVec F S_ .f32 := constant S_ .f32 0x00000000#32
  let main_v4 : FVec F S4x2048 .f32 := (fun x v => Host.reduceAdd x v reducesTo_S4x2048x3_S4x2048_d2 h_S_) main_v3 main_cst
  let main_v5 : FVec F S4x2048x3 .f32 := mulf main_v1 main_v1
  let main_cst_0 : FVec F S_ .f32 := constant S_ .f32 0x00000000#32
  let main_v6 : FVec F S4x2048 .f32 := (fun x v => Host.reduceAdd x v reducesTo_S4x2048x3_S4x2048_d2 h_S_) main_v5 main_cst_0
  let main_v7 : FVec F S4x2048x2048 .f32 := (fun l r => Host.dotGeneral dot_S4x2048x3_S4x2048x3_S4x2048x2048_2_2_1_1_0_0 none l r) main_v2 main_v1
  let main_v8 : FVec F S4x2048x1 .f32 := broadcastInDim S4x2048x1 ![0, 1] bcast_S4x2048_S4x2048x1_0_1 main_v4
  let main_v9 : FVec F S4x1x2048 .f32 := broadcastInDim S4x1x2048 ![0, 2] bcast_S4x2048_S4x1x2048_0_2 main_v6
  let main_v10 : FVec F S4x2048x2048 .f32 := broadcastInDim S4x2048x2048 ![0, 1, 2] bcast_S4x2048x1_S4x2048x2048_0_1_2 main_v8
  let main_v11 : FVec F S4x2048x2048 .f32 := broadcastInDim S4x2048x2048 ![0, 1, 2] bcast_S4x1x2048_S4x2048x2048_0_1_2 main_v9
  let main_v12 : FVec F S4x2048x2048 .f32 := addf main_v10 main_v11
  let main_cst_1 : FVec F S_ .f32 := constant S_ .f32 0x40000000#32
  let main_v13 : FVec F S4x2048x2048 .f32 := broadcastInDim S4x2048x2048 ![] bcast_S_S4x2048x2048 main_cst_1
  let main_v14 : FVec F S4x2048x2048 .f32 := mulf main_v13 main_v7
  let main_v15 : FVec F S4x2048x2048 .f32 := subf main_v12 main_v14
  let main_cst_2 : FVec F S_ .f32 := constant S_ .f32 0x00000000#32
  let main_v16 : FVec F S4x2048x2048 .f32 := broadcastInDim S4x2048x2048 ![] bcast_S_S4x2048x2048 main_cst_2
  let main_v17 : FVec F S4x2048x2048 .f32 := maximumf main_v15 main_v16
  let main_v18 : IVec S2048 32 := iotaInDim S2048 32 0
  let main_v19 : IVec S1x1x2048 32 := broadcastInDim S1x1x2048 ![2] bcast_S2048_S1x1x2048_2 main_v18
  fn_part1 (F := F) main_arg0 main_arg1 main_arg2 main_arg3 main_arg4 main_arg5 main_arg6 main_v17 main_v19
-- ==== Kernel.lean ====
abbrev S4x3x2048x6 : Shape := ⟨4, ![4, 3, 2048, 6]⟩
abbrev S4x1x2048x3 : Shape := ⟨4, ![4, 1, 2048, 3]⟩
abbrev S12x64 : Shape := ⟨2, ![12, 64]⟩
abbrev S64 : Shape := ⟨1, ![64]⟩
abbrev S64x3 : Shape := ⟨2, ![64, 3]⟩
abbrev S3 : Shape := ⟨1, ![3]⟩
abbrev S4x1x2048x6 : Shape := ⟨4, ![4, 1, 2048, 6]⟩
abbrev S4x2048x6 : Shape := ⟨3, ![4, 2048, 6]⟩
abbrev S4x2048x3 : Shape := ⟨3, ![4, 2048, 3]⟩
abbrev S4x3x2048 : Shape := ⟨3, ![4, 3, 2048]⟩
abbrev S4x3x4096 : Shape := ⟨3, ![4, 3, 4096]⟩
abbrev S6x64 : Shape := ⟨2, ![6, 64]⟩
abbrev S1x64 : Shape := ⟨2, ![1, 64]⟩
abbrev S1x3 : Shape := ⟨2, ![1, 3]⟩
abbrev S1x1x128 : Shape := ⟨3, ![1, 1, 128]⟩
abbrev S1x2048x6 : Shape := ⟨3, ![1, 2048, 6]⟩
abbrev S1x3x2048 : Shape := ⟨3, ![1, 3, 2048]⟩
abbrev S1x3x4096 : Shape := ⟨3, ![1, 3, 4096]⟩
abbrev S1x2048x3 : Shape := ⟨3, ![1, 2048, 3]⟩
abbrev S2048x128 : Shape := ⟨2, ![2048, 128]⟩
abbrev S1x128 : Shape := ⟨2, ![1, 128]⟩
abbrev S2048x6 : Shape := ⟨2, ![2048, 6]⟩
abbrev S3x2048 : Shape := ⟨2, ![3, 2048]⟩
abbrev S3x4096 : Shape := ⟨2, ![3, 4096]⟩
abbrev S2048x3 : Shape := ⟨2, ![2048, 3]⟩
abbrev S2048x64 : Shape := ⟨2, ![2048, 64]⟩
abbrev S2048 : Shape := ⟨1, ![2048]⟩
abbrev S1x2048 : Shape := ⟨2, ![1, 2048]⟩
abbrev S4096 : Shape := ⟨1, ![4096]⟩
abbrev S1x4096 : Shape := ⟨2, ![1, 4096]⟩
abbrev S512x128 : Shape := ⟨2, ![512, 128]⟩
abbrev S512x2048 : Shape := ⟨2, ![512, 2048]⟩
abbrev S512x3 : Shape := ⟨2, ![512, 3]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1x1x2048 : Shape := ⟨3, ![1, 1, 2048]⟩
abbrev S1x1x1 : Shape := ⟨3, ![1, 1, 1]⟩
abbrev S512x4096 : Shape := ⟨2, ![512, 4096]⟩
abbrev S1x512x1 : Shape := ⟨3, ![1, 512, 1]⟩
abbrev S1x2048x128 : Shape := ⟨3, ![1, 2048, 128]⟩
abbrev S2048x1 : Shape := ⟨2, ![2048, 1]⟩
abbrev S1x2048x1 : Shape := ⟨3, ![1, 2048, 1]⟩
abbrev S128 : Shape := ⟨1, ![128]⟩
abbrev S_ : Shape := ⟨0, ![]⟩

abbrev nBuf : Space → Nat
  | .hbm => 30
  | .vmem => 21
  | .smem => 0
  | _ => 0

abbrev bufTy : (tb : Table) → Fin (tcTables nBuf tb) → BufTy
  | .hbm, ⟨0, _⟩ => ⟨S4x3x2048x6, .f32⟩
  | .hbm, ⟨1, _⟩ => ⟨S4x1x2048x3, .f32⟩
  | .hbm, ⟨2, _⟩ => ⟨S4x1x2048x3, .f32⟩
  | .hbm, ⟨3, _⟩ => ⟨S12x64, .f32⟩
  | .hbm, ⟨4, _⟩ => ⟨S64, .f32⟩
  | .hbm, ⟨5, _⟩ => ⟨S64x3, .f32⟩
  | .hbm, ⟨6, _⟩ => ⟨S3, .f32⟩
  | .hbm, ⟨7, _⟩ => ⟨S4x1x2048x6, .f32⟩
  | .hbm, ⟨8, _⟩ => ⟨S4x2048x6, .f32⟩
  | .hbm, ⟨9, _⟩ => ⟨S4x1x2048x6, .f32⟩
  | .hbm, ⟨10, _⟩ => ⟨S4x2048x6, .f32⟩
  | .hbm, ⟨11, _⟩ => ⟨S4x2048x3, .f32⟩
  | .hbm, ⟨12, _⟩ => ⟨S4x3x2048, .f32⟩
  | .hbm, ⟨13, _⟩ => ⟨S4x2048x3, .f32⟩
  | .hbm, ⟨14, _⟩ => ⟨S4x3x2048, .f32⟩
  | .hbm, ⟨15, _⟩ => ⟨S4x3x4096, .f32⟩
  | .hbm, ⟨16, _⟩ => ⟨S4x2048x3, .f32⟩
  | .hbm, ⟨17, _⟩ => ⟨S4x2048x3, .f32⟩
  | .hbm, ⟨18, _⟩ => ⟨S6x64, .f32⟩
  | .hbm, ⟨19, _⟩ => ⟨S6x64, .f32⟩
  | .hbm, ⟨20, _⟩ => ⟨S1x64, .f32⟩
  | .hbm, ⟨21, _⟩ => ⟨S1x3, .f32⟩
  | .hbm, ⟨22, _⟩ => ⟨S1x1x128, .f32⟩
  | .hbm, ⟨23, _⟩ => ⟨S128, .f32⟩
  | .hbm, ⟨24, _⟩ => ⟨S1, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S1, .f32⟩
  | .hbm, ⟨29, _⟩ => ⟨S_, .f32⟩
  | .local _ .vmem, ⟨0, _⟩ => ⟨S1x2048x6, .f32⟩
  | .local _ .vmem, ⟨1, _⟩ => ⟨S1x2048x6, .f32⟩
  | .local _ .vmem, ⟨2, _⟩ => ⟨S1x2048x6, .f32⟩
  | .local _ .vmem, ⟨3, _⟩ => ⟨S1x2048x6, .f32⟩
  | .local _ .vmem, ⟨4, _⟩ => ⟨S1x3x2048, .f32⟩
  | .local _ .vmem, ⟨5, _⟩ => ⟨S1x3x2048, .f32⟩
  | .local _ .vmem, ⟨6, _⟩ => ⟨S1x3x4096, .f32⟩
  | .local _ .vmem, ⟨7, _⟩ => ⟨S1x3x4096, .f32⟩
  | .local _ .vmem, ⟨8, _⟩ => ⟨S1x2048x3, .f32⟩
  | .local _ .vmem, ⟨9, _⟩ => ⟨S1x2048x3, .f32⟩
  | .local _ .vmem, ⟨10, _⟩ => ⟨S1x2048x3, .f32⟩
  | .local _ .vmem, ⟨11, _⟩ => ⟨S1x2048x3, .f32⟩
  | .local _ .vmem, ⟨12, _⟩ => ⟨S6x64, .f32⟩
  | .local _ .vmem, ⟨13, _⟩ => ⟨S6x64, .f32⟩
  | .local _ .vmem, ⟨14, _⟩ => ⟨S1x64, .f32⟩
  | .local _ .vmem, ⟨15, _⟩ => ⟨S64x3, .f32⟩
  | .local _ .vmem, ⟨16, _⟩ => ⟨S1x3, .f32⟩
  | .local _ .vmem, ⟨17, _⟩ => ⟨S1x1x128, .f32⟩
  | .local _ .vmem, ⟨18, _⟩ => ⟨S2048x128, .f32⟩
  | .local _ .vmem, ⟨19, _⟩ => ⟨S2048x128, .f32⟩
  | .local _ .vmem, ⟨20, _⟩ => ⟨S1x128, .f32⟩
  | _, _ => ⟨S4x3x2048x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32_199 : BitVec 32 := 3#32
  let v724 : BitVec 1 := Scalar.cmpi .eq arg0 c3_i32_199
  let v725 : BitVec 32 := Scalar.extui v724
  let c0_i32_200 : BitVec 32 := 0#32
  let v726 : BitVec 1 := Scalar.cmpi .ne v725 c0_i32_200
  v726

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x2048x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "far_sq" => some ((1 / 25 : ℝ) : EReal)
  | "near_sq" => some ((1 / 400 : ℝ) : EReal)
  | _ => none
-- ==== ReferenceIdeal.lean ====
abbrev S4x3x2048x6 : Shape := ⟨4, ![4, 3, 2048, 6]⟩
abbrev S4x1x2048x3 : Shape := ⟨4, ![4, 1, 2048, 3]⟩
abbrev S12x64 : Shape := ⟨2, ![12, 64]⟩
abbrev S64 : Shape := ⟨1, ![64]⟩
abbrev S64x3 : Shape := ⟨2, ![64, 3]⟩
abbrev S3 : Shape := ⟨1, ![3]⟩
abbrev S4x2x2048x6 : Shape := ⟨4, ![4, 2, 2048, 6]⟩
abbrev S4x1x2048x6 : Shape := ⟨4, ![4, 1, 2048, 6]⟩
abbrev S4x2048x6 : Shape := ⟨3, ![4, 2048, 6]⟩
abbrev S4x2048x12 : Shape := ⟨3, ![4, 2048, 12]⟩
abbrev S4x2048x64 : Shape := ⟨3, ![4, 2048, 64]⟩
abbrev S1x1x64 : Shape := ⟨3, ![1, 1, 64]⟩
abbrev S_ : Shape := ⟨0, ![]⟩
abbrev S4x2048x3 : Shape := ⟨3, ![4, 2048, 3]⟩
abbrev S1x1x3 : Shape := ⟨3, ![1, 1, 3]⟩
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩
abbrev S4 : Shape := ⟨1, ![4]⟩
abbrev S4x1x1x1 : Shape := ⟨4, ![4, 1, 1, 1]⟩
abbrev S4x4096x3 : Shape := ⟨3, ![4, 4096, 3]⟩
abbrev S4x4096 : Shape := ⟨2, ![4, 4096]⟩
abbrev S4x2048x4096 : Shape := ⟨3, ![4, 2048, 4096]⟩
abbrev S4x1x4096 : Shape := ⟨3, ![4, 1, 4096]⟩
abbrev S2048 : Shape := ⟨1, ![2048]⟩
abbrev S1x1x2048 : Shape := ⟨3, ![1, 1, 2048]⟩
abbrev S4x1x2048x1 : Shape := ⟨4, ![4, 1, 2048, 1]⟩
abbrev S1 : Shape := ⟨1, ![1]⟩
abbrev S1x1x1 : Shape := ⟨3, ![1, 1, 1]⟩
abbrev S1x4x2048x3 : Shape := ⟨4, ![1, 4, 2048, 3]⟩
abbrev S4x4x2048x3 : Shape := ⟨4, ![4, 4, 2048, 3]⟩

abbrev nBuf : Space → Nat
  | .hbm => 243
  | .vmem => 0
  | .smem => 0
  | _ => 0

abbrev hbmTy0_0 (i : Nat) : BufTy := match i % 128 with
  | 0 => ⟨S4x3x2048x6, .f32⟩
  | 1 => ⟨S4x1x2048x3, .f32⟩
  | 2 => ⟨S4x1x2048x3, .f32⟩
  | 3 => ⟨S12x64, .f32⟩
  | 4 => ⟨S64, .f32⟩
  | 5 => ⟨S64x3, .f32⟩
  | 6 => ⟨S3, .f32⟩
  | 7 => ⟨S4x2x2048x6, .f32⟩
  | 8 => ⟨S4x1x2048x6, .f32⟩
  | 9 => ⟨S4x2048x6, .f32⟩
  | 10 => ⟨S4x1x2048x6, .f32⟩
  | 11 => ⟨S4x2048x6, .f32⟩
  | 12 => ⟨S4x2048x12, .f32⟩
  | 13 => ⟨S4x2048x64, .f32⟩
  | 14 => ⟨S1x1x64, .f32⟩
  | 15 => ⟨S4x2048x64, .f32⟩
  | 16 => ⟨S4x2048x64, .f32⟩
  | 17 => ⟨S_, .f32⟩
  | 18 => ⟨S4x2048x64, .f32⟩
  | 19 => ⟨S4x2048x64, .f32⟩
  | 20 => ⟨S4x2048x3, .f32⟩
  | 21 => ⟨S1x1x3, .f32⟩
  | 22 => ⟨S4x2048x3, .f32⟩
  | 23 => ⟨S4x2048x3, .f32⟩
  | 24 => ⟨S4x1x2048x3, .f32⟩
  | 25 => ⟨S4x1x2048x3, .f32⟩
  | 26 => ⟨S4x1x2048x3, .f32⟩
  | 27 => ⟨S4x1x2048x3, .f32⟩
  | 28 => ⟨S4x2048x3, .f32⟩
  | 29 => ⟨S4x2048x3, .f32⟩
  | 30 => ⟨S4x2048x3, .f32⟩
  | 31 => ⟨S_, .f32⟩
  | 32 => ⟨S4x2048, .f32⟩
  | 33 => ⟨S4x2048x3, .f32⟩
  | 34 => ⟨S_, .f32⟩
  | 35 => ⟨S4x2048, .f32⟩
  | 36 => ⟨S4x2048x2048, .f32⟩
  | 37 => ⟨S4x2048x1, .f32⟩
  | 38 => ⟨S4x1x2048, .f32⟩
  | 39 => ⟨S4x2048x2048, .f32⟩
  | 40 => ⟨S4x2048x2048, .f32⟩
  | 41 => ⟨S4x2048x2048, .f32⟩
  | 42 => ⟨S_, .f32⟩
  | 43 => ⟨S4x2048x2048, .f32⟩
  | 44 => ⟨S4x2048x2048, .f32⟩
  | 45 => ⟨S4x2048x2048, .f32⟩
  | 46 => ⟨S_, .f32⟩
  | 47 => ⟨S4x2048x2048, .f32⟩
  | 48 => ⟨S4x2048x2048, .f32⟩
  | 49 => ⟨S_, .f32⟩
  | 50 => ⟨S4x2048, .f32⟩
  | 51 => ⟨S_, .f32⟩
  | 52 => ⟨S4x2048, .f32⟩
  | 53 => ⟨S_, .f32⟩
  | 54 => ⟨S4, .f32⟩
  | 55 => ⟨S_, .f32⟩
  | 56 => ⟨S4, .f32⟩
  | 57 => ⟨S4, .f32⟩
  | 58 => ⟨S_, .f32⟩
  | 59 => ⟨S4, .f32⟩
  | 60 => ⟨S_, .f32⟩
  | 61 => ⟨S4, .f32⟩
  | 62 => ⟨S4, .f32⟩
  | 63 => ⟨S4, .f32⟩
  | 64 => ⟨S_, .f32⟩
  | 65 => ⟨S4, .f32⟩
  | 66 => ⟨S4, .i1⟩
  | 67 => ⟨S4, .f32⟩
  | 68 => ⟨S4x1x1x1, .f32⟩
  | 69 => ⟨S4x2048x3, .f32⟩
  | 70 => ⟨S4x2048x3, .f32⟩
  | 71 => ⟨S4x2048x3, .f32⟩
  | 72 => ⟨S_, .f32⟩
  | 73 => ⟨S4x2048, .f32⟩
  | 74 => ⟨S4x2048x3, .f32⟩
  | 75 => ⟨S_, .f32⟩
  | 76 => ⟨S4x2048, .f32⟩
  | 77 => ⟨S4x2048x2048, .f32⟩
  | 78 => ⟨S4x2048x1, .f32⟩
  | 79 => ⟨S4x1x2048, .f32⟩
  | 80 => ⟨S4x2048x2048, .f32⟩
  | 81 => ⟨S4x2048x2048, .f32⟩
  | 82 => ⟨S4x2048x2048, .f32⟩
  | 83 => ⟨S_, .f32⟩
  | 84 => ⟨S4x2048x2048, .f32⟩
  | 85 => ⟨S4x2048x2048, .f32⟩
  | 86 => ⟨S4x2048x2048, .f32⟩
  | 87 => ⟨S_, .f32⟩
  | 88 => ⟨S4x2048x2048, .f32⟩
  | 89 => ⟨S4x2048x2048, .f32⟩
  | 90 => ⟨S_, .f32⟩
  | 91 => ⟨S4x2048x2048, .f32⟩
  | 92 => ⟨S4x2048x2048, .f32⟩
  | 93 => ⟨S4x2048x2048, .f32⟩
  | 94 => ⟨S4x2048x3, .f32⟩
  | 95 => ⟨S4x2048x3, .f32⟩
  | 96 => ⟨S4x4096x3, .f32⟩
  | 97 => ⟨S4x2048x3, .f32⟩
  | 98 => ⟨S4x2048x3, .f32⟩
  | 99 => ⟨S_, .f32⟩
  | 100 => ⟨S4x2048, .f32⟩
  | 101 => ⟨S4x4096x3, .f32⟩
  | 102 => ⟨S_, .f32⟩
  | 103 => ⟨S4x4096, .f32⟩
  | 104 => ⟨S4x2048x4096, .f32⟩
  | 105 => ⟨S4x2048x1, .f32⟩
  | 106 => ⟨S4x1x4096, .f32⟩
  | 107 => ⟨S4x2048x4096, .f32⟩
  | 108 => ⟨S4x2048x4096, .f32⟩
  | 109 => ⟨S4x2048x4096, .f32⟩
  | 110 => ⟨S_, .f32⟩
  | 111 => ⟨S4x2048x4096, .f32⟩
  | 112 => ⟨S4x2048x4096, .f32⟩
  | 113 => ⟨S4x2048x4096, .f32⟩
  | 114 => ⟨S_, .f32⟩
  | 115 => ⟨S4x2048x4096, .f32⟩
  | 116 => ⟨S4x2048x4096, .f32⟩
  | 117 => ⟨S_, .f32⟩
  | 118 => ⟨S4x2048x4096, .f32⟩
  | 119 => ⟨S4x2048x4096, .f32⟩
  | 120 => ⟨S4x2048x4096, .f32⟩
  | 121 => ⟨S_, .f32⟩
  | 122 => ⟨S4x2048, .f32⟩
  | 123 => ⟨S2048, .i32⟩
  | 124 => ⟨S1x1x2048, .i32⟩
  | 125 => ⟨S_, .f32⟩
  | 126 => ⟨S4x2048, .f32⟩
  | 127 => ⟨S4x2048x1, .f32⟩
  | _ => ⟨S4x3x2048x6, .f32⟩

abbrev hbmTy0_1 (i : Nat) : BufTy := match i % 128 with
  | 0 => ⟨S4x2048x2048, .f32⟩
  | 1 => ⟨S4x2048x2048, .i1⟩
  | 2 => ⟨S_, .i32⟩
  | 3 => ⟨S_, .i32⟩
  | 4 => ⟨S4x2048x2048, .i32⟩
  | 5 => ⟨S4x2048x2048, .i32⟩
  | 6 => ⟨S4x2048x2048, .i32⟩
  | 7 => ⟨S_, .i32⟩
  | 8 => ⟨S4x2048, .i32⟩
  | 9 => ⟨S_, .f32⟩
  | 10 => ⟨S4x2048, .f32⟩
  | 11 => ⟨S_, .f32⟩
  | 12 => ⟨S_, .f32⟩
  | 13 => ⟨S_, .f32⟩
  | 14 => ⟨S4x2048, .f32⟩
  | 15 => ⟨S4x2048, .i1⟩
  | 16 => ⟨S4x2048, .f32⟩
  | 17 => ⟨S4x1x2048x1, .f32⟩
  | 18 => ⟨S_, .f32⟩
  | 19 => ⟨S_, .f32⟩
  | 20 => ⟨S_, .f32⟩
  | 21 => ⟨S4x2048, .f32⟩
  | 22 => ⟨S4x2048, .i1⟩
  | 23 => ⟨S4x2048, .f32⟩
  | 24 => ⟨S4x1x2048x1, .f32⟩
  | 25 => ⟨S4x2048x3, .f32⟩
  | 26 => ⟨S4x2048x1, .i32⟩
  | 27 => ⟨S_, .i32⟩
  | 28 => ⟨S4x2048x1, .i32⟩
  | 29 => ⟨S4x2048x1, .i1⟩
  | 30 => ⟨S_, .i32⟩
  | 31 => ⟨S4x2048x1, .i32⟩
  | 32 => ⟨S4x2048x1, .i32⟩
  | 33 => ⟨S4x2048x1, .i32⟩
  | 34 => ⟨S1, .i32⟩
  | 35 => ⟨S_, .i32⟩
  | 36 => ⟨S4x2048x1, .i32⟩
  | 37 => ⟨S4x2048x1, .i1⟩
  | 38 => ⟨S1x1x1, .i32⟩
  | 39 => ⟨S4x2048x1, .i32⟩
  | 40 => ⟨S4x2048x1, .i1⟩
  | 41 => ⟨S4x2048x1, .i1⟩
  | 42 => ⟨S_, .i1⟩
  | 43 => ⟨S4x2048, .i1⟩
  | 44 => ⟨S4x2048x3, .f32⟩
  | 45 => ⟨S4x2048x3, .i1⟩
  | 46 => ⟨S_, .f32⟩
  | 47 => ⟨S4x2048x3, .f32⟩
  | 48 => ⟨S4x2048x3, .f32⟩
  | 49 => ⟨S4x2048x3, .f32⟩
  | 50 => ⟨S4x2048x3, .f32⟩
  | 51 => ⟨S4x2048x3, .f32⟩
  | 52 => ⟨S_, .f32⟩
  | 53 => ⟨S4x2048, .f32⟩
  | 54 => ⟨S4x2048x3, .f32⟩
  | 55 => ⟨S_, .f32⟩
  | 56 => ⟨S4x2048, .f32⟩
  | 57 => ⟨S4x2048x2048, .f32⟩
  | 58 => ⟨S4x2048x1, .f32⟩
  | 59 => ⟨S4x1x2048, .f32⟩
  | 60 => ⟨S4x2048x2048, .f32⟩
  | 61 => ⟨S4x2048x2048, .f32⟩
  | 62 => ⟨S4x2048x2048, .f32⟩
  | 63 => ⟨S_, .f32⟩
  | 64 => ⟨S4x2048x2048, .f32⟩
  | 65 => ⟨S4x2048x2048, .f32⟩
  | 66 => ⟨S4x2048x2048, .f32⟩
  | 67 => ⟨S_, .f32⟩
  | 68 => ⟨S4x2048x2048, .f32⟩
  | 69 => ⟨S4x2048x2048, .f32⟩
  | 70 => ⟨S_, .f32⟩
  | 71 => ⟨S4x2048, .f32⟩
  | 72 => ⟨S_, .f32⟩
  | 73 => ⟨S4x2048, .f32⟩
  | 74 => ⟨S_, .f32⟩
  | 75 => ⟨S4x2048, .f32⟩
  | 76 => ⟨S4x2048, .i1⟩
  | 77 => ⟨S_, .f32⟩
  | 78 => ⟨S_, .f32⟩
  | 79 => ⟨S4x2048, .f32⟩
  | 80 => ⟨S4x2048, .f32⟩
  | 81 => ⟨S_, .f32⟩
  | 82 => ⟨S_, .f32⟩
  | 83 => ⟨S4x2048, .f32⟩
  | 84 => ⟨S_, .f32⟩
  | 85 => ⟨S_, .f32⟩
  | 86 => ⟨S_, .f32⟩
  | 87 => ⟨S_, .f32⟩
  | 88 => ⟨S_, .f32⟩
  | 89 => ⟨S4x1x2048x3, .f32⟩
  | 90 => ⟨S4x1x2048x3, .f32⟩
  | 91 => ⟨S4x1x2048x3, .f32⟩
  | 92 => ⟨S4x1x2048x3, .f32⟩
  | 93 => ⟨S4x1x2048x3, .f32⟩
  | 94 => ⟨S1x4x2048x3, .f32⟩
  | 95 => ⟨S4x4x2048x3, .f32⟩
  | 96 => ⟨S4x4x2048x3, .f32⟩
  | 97 => ⟨S4x4x2048x3, .f32⟩
  | 98 => ⟨S4x4x2048x3, .f32⟩
  | 99 => ⟨S4x4x2048x3, .f32⟩
  | 100 => ⟨S4x4x2048x3, .f32⟩
  | 101 => ⟨S4x4x2048x3, .f32⟩
  | 102 => ⟨S4x4x2048x3, .f32⟩
  | 103 => ⟨S_, .f32⟩
  | 104 => ⟨S_, .f32⟩
  | 105 => ⟨S_, .f32⟩
  | 106 => ⟨S_, .f32⟩
  | 107 => ⟨S4x1x2048x3, .f32⟩
  | 108 => ⟨S4x1x2048x3, .f32⟩
  | 109 => ⟨S4x1x2048x3, .f32⟩
  | 110 => ⟨S4x1x2048x3, .f32⟩
  | 111 => ⟨S_, .f32⟩
  | 112 => ⟨S_, .f32⟩
  | 113 => ⟨S_, .f32⟩
  | 114 => ⟨S_, .f32⟩
  | _ => ⟨S4x3x2048x6, .f32⟩

abbrev hbmTy (i : Nat) : BufTy := match i / 128 with
  | 0 => hbmTy0_0 i
  | 1 => hbmTy0_1 i
  | _ => ⟨S4x3x2048x6, .f32⟩

abbrev bufTy : (tb : Table) → Fin (tcTables nBuf tb) → BufTy
  | .hbm, ⟨i, _⟩ => hbmTy i
  | _, _ => ⟨S4x3x2048x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_18 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_19 : Ref sig .tc := ⟨.hbm, 114, rfl⟩
abbrev main_v87 : Ref sig .tc := ⟨.hbm, 115, rfl⟩
abbrev main_v88 : Ref sig .tc := ⟨.hbm, 116, rfl⟩
abbrev main_cst_20 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_21 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c : Ref sig .tc := ⟨.hbm, 130, rfl⟩
abbrev main_call0_v0 : Ref sig .tc := ⟨.hbm, 131, rfl⟩
abbrev main_call0_v1 : Ref sig .tc := ⟨.hbm, 132, rfl⟩
abbrev main_call0_v2 : Ref sig .tc := ⟨.hbm, 133, rfl⟩
abbrev main_v99 : Ref sig .tc := ⟨.hbm, 134, rfl⟩
abbrev main_c_23 : Ref sig .tc := ⟨.hbm, 135, rfl⟩
abbrev main_v100 : Ref sig .tc := ⟨.hbm, 136, rfl⟩
abbrev main_cst_24 : Ref sig .tc := ⟨.hbm, 137, rfl⟩
abbrev main_v101 : Ref sig .tc := ⟨.hbm, 138, rfl⟩
abbrev main_cst_25 : Ref sig .tc := ⟨.hbm, 139, rfl⟩
abbrev main_cst_26 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_27 : Ref sig .tc := ⟨.hbm, 146, rfl⟩
abbrev main_cst_28 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_call1_c : Ref sig .tc := ⟨.hbm, 155, rfl⟩
abbrev main_call1_v0 : Ref sig .tc := ⟨.hbm, 156, rfl⟩
abbrev main_call1_v1 : Ref sig .tc := ⟨.hbm, 157, rfl⟩
abbrev main_call1_c_0 : Ref sig .tc := ⟨.hbm, 158, rfl⟩
abbrev main_call1_v2 : Ref sig .tc := ⟨.hbm, 159, rfl⟩
abbrev main_call1_v3 : Ref sig .tc := ⟨.hbm, 160, rfl⟩
abbrev main_call1_v4 : Ref sig .tc := ⟨.hbm, 161, rfl⟩
abbrev main_call1_c_1 : Ref sig .tc := ⟨.hbm, 162, rfl⟩
abbrev main_call1_c_2 : Ref sig .tc := ⟨.hbm, 163, rfl⟩
abbrev main_call1_v5 : Ref sig .tc := ⟨.hbm, 164, rfl⟩
abbrev main_call1_v6 : Ref sig .tc := ⟨.hbm, 165, rfl⟩
abbrev main_call1_v7 : Ref sig .tc := ⟨.hbm, 166, rfl⟩
abbrev main_call1_v8 : Ref sig .tc := ⟨.hbm, 167, rfl⟩
abbrev main_call1_v9 : Ref sig .tc := ⟨.hbm, 168, rfl⟩
abbrev main_call1_v10 : Ref sig .tc := ⟨.hbm, 169, rfl⟩
abbrev main_call1_c_3 : Ref sig .tc := ⟨.hbm, 170, rfl⟩
abbrev main_call1_v11 : Ref sig .tc := ⟨.hbm, 171, rfl⟩
abbrev main_call1_v12 : Ref sig .tc := ⟨.hbm, 172, rfl⟩
abbrev main_call1_v13 : Ref sig .tc := ⟨.hbm, 173, rfl⟩
abbrev main_call1_cst : Ref sig .tc := ⟨.hbm, 174, rfl⟩
abbrev main_call1_v14 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_cst_29 : Ref sig .tc := ⟨.hbm, 180, rfl⟩
abbrev main_v118 : Ref sig .tc := ⟨.hbm, 181, rfl⟩
abbrev main_v119 : Ref sig .tc := ⟨.hbm, 182, rfl⟩
abbrev main_cst_30 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_31 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_cst_32 : Ref sig .tc := ⟨.hbm, 195, rfl⟩
abbrev main_v130 : Ref sig .tc := ⟨.hbm, 196, rfl⟩
abbrev main_v131 : Ref sig .tc := ⟨.hbm, 197, rfl⟩
abbrev main_cst_33 : Ref sig .tc := ⟨.hbm, 198, rfl⟩
abbrev main_v132 : Ref sig .tc := ⟨.hbm, 199, rfl⟩
abbrev main_cst_34 : Ref sig .tc := ⟨.hbm, 200, rfl⟩
abbrev main_v133 : Ref sig .tc := ⟨.hbm, 201, rfl⟩
abbrev main_cst_35 : Ref sig .tc := ⟨.hbm, 202, rfl⟩
abbrev main_v134 : Ref sig .tc := ⟨.hbm, 203, rfl⟩
abbrev main_v135 : Ref sig .tc := ⟨.hbm, 204, rfl⟩
abbrev main_cst_36 : Ref sig .tc := ⟨.hbm, 205, rfl⟩
abbrev main_call2_v0 : Ref sig .tc := ⟨.hbm, 206, rfl⟩
abbrev main_call2_v1 : Ref sig .tc := ⟨.hbm, 207, rfl⟩
abbrev main_v136 : Ref sig .tc := ⟨.hbm, 208, rfl⟩
abbrev main_cst_37 : Ref sig .tc := ⟨.hbm, 209, rfl⟩
abbrev main_v137 : Ref sig .tc := ⟨.hbm, 210, rfl⟩
abbrev main_v138 : Ref sig .tc := ⟨.hbm, 211, rfl⟩
abbrev main_cst_38 : Ref sig .tc := ⟨.hbm, 212, rfl⟩
abbrev main_v139 : Ref sig .tc := ⟨.hbm, 213, rfl⟩
abbrev main_cst_39 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_cst_40 : Ref sig .tc := ⟨.hbm, 231, rfl⟩
abbrev main_v156 : Ref sig .tc := ⟨.hbm, 232, rfl⟩
abbrev main_cst_41 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_cst_42 : Ref sig .tc := ⟨.hbm, 239, rfl⟩
abbrev main_v162 : Ref sig .tc := ⟨.hbm, 240, rfl⟩
abbrev main_cst_43 : Ref sig .tc := ⟨.hbm, 241, rfl⟩
abbrev main_v163 : Ref sig .tc := ⟨.hbm, 242, rfl⟩

abbrev nD : Nat := 1
abbrev τ : Topo := Topo.v7x

variable {F : FTy → Type} [FloatOps F]
-- ==== Proof.Tools.lean ====
module

public import Mathlib.Order.ConditionallyCompleteLattice.Finset
public import Idealize.ShloMosaic.Lib.Pointwise

@[expose] public section
set_option maxRecDepth 16384

/-! Facts about the extended reals at which both programs are read: finite sums and finite minima of real numbers
stay real numbers, and the constants of the two programs as real numbers. -/

noncomputable section
open Idealize.ShloMosaic

namespace Loss

/-- A finite sum of real numbers, taken in the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- A sum of products of real numbers. -/
theorem coe_dot {ι : Type*} (s : Finset ι) (f g : ι → ℝ) :
    (∑ i ∈ s, (f i : EReal) * (g i : EReal)) = ((∑ i ∈ s, f i * g i : ℝ) : EReal) := by
  simp only [← EReal.coe_mul, coe_sum]

/-- The least of finitely many real numbers, taken from plus infinity. -/
theorem fold_min {ι : Type*} [Fintype ι] [Nonempty ι] (f : ι → ℝ) :
    Finset.univ.fold min (⊤ : EReal) (fun i => (f i : EReal)) = ((⨅ i, f i : ℝ) : EReal) := by
  apply le_antisymm
  · obtain ⟨i, hi⟩ := exists_eq_ciInf_of_finite (f := f)
    rw [← hi]
    exact (Finset.fold_min_le _).2 (Or.inr ⟨i, Finset.mem_univ _, le_rfl⟩)
  · refine (Finset.le_fold_min _).2 ⟨le_top, fun i _ => ?_⟩
    exact EReal.coe_le_coe_iff.2 (ciInf_le (Set.finite_range f).bddBelow i)

theorem iInf_le_at {ι : Type*} [Finite ι] (f : ι → ℝ) (i : ι) : (⨅ i, f i) ≤ f i :=
  ciInf_le (Set.finite_range f).bddBelow i

theorem iInf_attained {ι : Type*} [Finite ι] [Nonempty ι] (f : ι → ℝ) : ∃ i, f i = ⨅ i, f i :=
  exists_eq_ciInf_of_finite

theorem iInf_lt_iff' {ι : Type*} [Finite ι] [Nonempty ι] (f : ι → ℝ) (a : ℝ) : (⨅ i, f i) < a ↔ ∃ i, f i < a := by
  constructor
  · intro h
    obtain ⟨i, hi⟩ := iInf_attained f
    exact ⟨i, by rw [hi]; exact h⟩
  · rintro ⟨i, hi⟩
    exact lt_of_le_of_lt (iInf_le_at f i) hi

theorem lt_iInf_iff' {ι : Type*} [Finite ι] [Nonempty ι] (f : ι → ℝ) (a : ℝ) : a < (⨅ i, f i) ↔ ∀ i, a < f i := by
  constructor
  · intro h i
    exact lt_of_lt_of_le h (iInf_le_at f i)
  · intro h
    obtain ⟨i, hi⟩ := iInf_attained f
    rw [← hi]; exact h i

theorem coe_min (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem top_f32 : Ideal.ofBits .f32 0x7F800000#32 = (⊤ : EReal) := by
  simp [Ideal.ofBits, Ideal.ieee]

theorem top_bf16 : Ideal.ofBits .bf16 0x7F80#16 = (⊤ : EReal) := by
  simp [Ideal.ofBits, Ideal.ieee]

/-- A comparison written out as the number one or zero. -/
theorem indicator_f32 (p : Prop) [Decidable p] :
    FloatOps.sitofp (F := Ideal) .f32 (BitVec.setWidth 32 (BitVec.ofBool (decide p))) = ((if p then 1 else 0 : ℝ) : EReal) := by
  by_cases h : p <;> simp [h, FloatOps.sitofp, BitVec.toInt]

/-- A choice made on a lane number. -/
theorem lane_select {α : Type} (l : Fin 128) (k : BitVec 32) (a b : α) :
    Scalar.select (IntOp.cmpi .eq (BitVec.ofNat 32 l.val) k) a b = if l.val = k.toNat then a else b := by
  have h : (BitVec.ofNat 32 l.val = k) ↔ l.val = k.toNat := by
    rw [← BitVec.toNat_inj, BitVec.toNat_ofNat, Nat.mod_eq_of_lt (by omega)]
  by_cases hl : l.val = k.toNat
  · simp [IntOp.cmpi, Scalar.select, h.2 hl, hl]
  · have hb : (BitVec.ofNat 32 l.val == k) = false := by rw [beq_eq_false_iff_ne]; exact fun e => hl (h.1 e)
    simp [IntOp.cmpi, Scalar.select, hb, hl]

theorem coe_ite (p : Prop) [Decidable p] (a b : ℝ) : (if p then (a : EReal) else (b : EReal)) = ((if p then a else b : ℝ) : EReal) := by
  split <;> rfl

end Loss
-- ==== Proof.Chunk.lean ====
module

public import proofs.«01_k».proof.Proof.Tools
public import proofs.«01_k».proof.Proof.Gen.KernelIdeal.Skeleton

@[expose] public section
set_option maxRecDepth 16384

/-! One chunk of 512 rows of the kernel's body. The body is printed four times over, once per chunk; the functions
here are that text over the chunk's own rows, and each is read once as a formula in the real numbers. -/

noncomputable section
open Idealize.ShloMosaic Idealize.ShloMosaic.TcCoe Idealize.SL.Sem
open Cert.KernelIdeal Cert.KernelIdeal.Gen

namespace Loss

/-- Squared distances of the chunk's points to all columns: the points' squares, plus the columns' squares, plus the
product with the columns already scaled by minus two. -/
def distChunk (q : FVec Ideal S512x3 .f32) (k : FVec Ideal S3x4096 .bf16) (ksq : FVec Ideal S1x4096 .f32) : FVec Ideal S512x4096 .f32 :=
  addf (addf (broadcastTo S512x4096 (shapeCast S512x1 (multiReduction .add [1] S512 (mulf q q) 0x00000000#32 reduces_S512x3_S512 (.inl rfl) rfl) shapeCasts_S512_S512x1) broadcasts_S512x1_S512x4096)
      (broadcastTo S512x4096 ksq broadcasts_S1x4096_S512x4096))
    (matmul dot_S512x3_S3x4096_S512x4096_1_0_0_1_n_n none (truncf .bf16 q bitsLt_bf16_f32) k (constant S512x4096 .f32 0x00000000#32))

/-- The same against the 2048 moved points, the sums narrowed before they are added, and no less than zero. -/
def chamChunk (q : FVec Ideal S512x3 .f32) (k : FVec Ideal S3x2048 .bf16) (ksq : FVec Ideal S1x2048 .bf16) : FVec Ideal S512x2048 .bf16 :=
  maximumf (addf (addf (broadcastTo S512x2048 (truncf .bf16 (shapeCast S512x1 (multiReduction .add [1] S512 (mulf q q) 0x00000000#32 reduces_S512x3_S512 (.inl rfl) rfl) shapeCasts_S512_S512x1) bitsLt_bf16_f32) broadcasts_S512x1_S512x2048)
      (broadcastTo S512x2048 ksq broadcasts_S1x2048_S512x2048))
    (truncf .bf16 (matmul dot_S512x3_S3x2048_S512x2048_1_0_0_1_n_n none (truncf .bf16 q bitsLt_bf16_f32) k (constant S512x2048 .f32 0x00000000#32)) bitsLt_bf16_f32))
    (broadcast S512x2048 (Scalar.ofBits .bf16 0x0000#16))

/-- The chunk's row minima, summed. -/
def rowSum (d : FVec Ideal S512x2048 .bf16) : Ideal .f32 :=
  extractAt ![0, 0] (shapeCast S1x1 (multiReduction .add [1] S1 (shapeCast S1x512 (extf .f32 (multiReduction .minimumf [1] S512 d 0x7F80#16 reduces_S512x2048_S512 (.inr rfl) rfl) bitsLt_bf16_f32) shapeCasts_S512_S1x512) 0x00000000#32 reduces_S1x512_S1 (.inl rfl) rfl) shapeCasts_S1_S1x1) inpos_S1x1_p0_0

/-- The column minima so far, with the chunk's own. -/
def colStep (c : FVec Ideal S1x2048 .bf16) (d : FVec Ideal S512x2048 .bf16) : FVec Ideal S1x2048 .bf16 :=
  minimumf c (shapeCast S1x2048 (multiReduction .minimumf [0] S2048 d 0x7F80#16 reduces_S512x2048_S2048 (.inr rfl) rfl) shapeCasts_S2048_S1x2048)

/-- The far half of the distances. -/
def farHalf (s : FVec Ideal S512x4096 .f32) : FVec Ideal S512x2048 .f32 :=
  extractStridedSlice S512x2048 ![0, 2048] s slices_S512x4096_o0_2048_S512x2048

/-- A column put on lane `k`, another array on the other lanes. -/
def onLane (v56 : IVec S512x128 32) (k : BitVec 32) (col : FVec Ideal S512x1 .f32) (els : FVec Ideal S512x128 .f32) : FVec Ideal S512x128 .f32 :=
  select (cmpi .eq v56 (broadcast S512x128 k)) (broadcastTo S512x128 (shapeCast S512x1 col shapeCasts_S512x1_S512x1) broadcasts_S512x1_S512x128) els

/-- The three columns of a chunk's array of points. -/
def col0 (v : FVec Ideal S512x3 .f32) : FVec Ideal S512x1 .f32 := extractStridedSlice S512x1 ![0, 0] v slices_S512x3_o0_0_S512x1
def col1 (v : FVec Ideal S512x3 .f32) : FVec Ideal S512x1 .f32 := extractStridedSlice S512x1 ![0, 1] v slices_S512x3_o0_1_S512x1
def col2 (v : FVec Ideal S512x3 .f32) : FVec Ideal S512x1 .f32 := extractStridedSlice S512x1 ![0, 2] v slices_S512x3_o0_2_S512x1
def zeros : FVec Ideal S512x128 .f32 := broadcast S512x128 (Scalar.ofBits .f32 0x00000000#32)

/-- The first accumulator's gain: lanes 0 to 2 take the weighted differences, lanes 3 to 5 the squares of the motion. -/
def accUpdA (v56 : IVec S512x128 32) (dy nm : FVec Ideal S512x3 .f32) (w : FVec Ideal S512x1 .f32) : FVec Ideal S512x128 .f32 :=
  (onLane v56 5#32 (mulf (col2 nm) (col2 nm)) (onLane v56 2#32 (mulf w (col2 dy)) (onLane v56 4#32 (mulf (col1 nm) (col1 nm))
    (onLane v56 1#32 (mulf w (col1 dy)) (onLane v56 3#32 (mulf (col0 nm) (col0 nm)) (onLane v56 0#32 (mulf w (col0 dy)) zeros))))))

/-- The second accumulator's gain: lanes 0 to 2 take the motion, lane 9 the weight. -/
def accUpdB (v56 : IVec S512x128 32) (nm : FVec Ideal S512x3 .f32) (w : FVec Ideal S512x1 .f32) : FVec Ideal S512x128 .f32 :=
  (onLane v56 2#32 (col2 nm) (onLane v56 1#32 (col1 nm) (onLane v56 0#32 (col0 nm) (onLane v56 9#32 w zeros))))

/-- The named constants as real numbers. -/
theorem near_sq_val : (Named.named (F := Ideal) κ "near_sq" (φ := .f32) 0x3B23D70A#32 : EReal) = ((1 / 400 : ℝ) : EReal) :=
  IdealRules.named_const.ideal_named_scalar _ _ _ _ rfl
theorem far_sq_val : (Named.named (F := Ideal) κ "far_sq" (φ := .f32) 0x3D23D70A#32 : EReal) = ((1 / 25 : ℝ) : EReal) :=
  IdealRules.named_const.ideal_named_scalar _ _ _ _ rfl

/-- The lanes of the first accumulator's update. -/
def laneA (w : ℝ) (dy nm : Fin 3 → ℝ) (l : Fin 128) : ℝ :=
  if l.val = 5 then nm 2 * nm 2 else if l.val = 2 then w * dy 2 else if l.val = 4 then nm 1 * nm 1
  else if l.val = 1 then w * dy 1 else if l.val = 3 then nm 0 * nm 0 else if l.val = 0 then w * dy 0 else 0

/-- The lanes of the second accumulator's update. -/
def laneB (w : ℝ) (nm : Fin 3 → ℝ) (l : Fin 128) : ℝ :=
  if l.val = 2 then nm 2 else if l.val = 1 then nm 1 else if l.val = 0 then nm 0 else if l.val = 9 then w else 0

section Readings
variable {q : FVec Ideal S512x3 .f32} {Q : Fin 512 → Fin 3 → ℝ}

theorem distChunk_at {k : FVec Ideal S3x4096 .bf16} {ksq : FVec Ideal S1x4096 .f32} {K : Fin 3 → Fin 4096 → ℝ} {N : Fin 4096 → ℝ}
    (hq : ∀ r c, q (ix2 r c) = (Q r c : EReal)) (hk : ∀ c n, k (ix2 c n) = (K c n : EReal)) (hn : ∀ n, ksq (ix2 0 n) = (N n : EReal))
    (r : Fin 512) (n : Fin 4096) :
    distChunk q k ksq (ix2 r n) = (((∑ c, Q r c * Q r c) + N n + ∑ c, Q r c * K c n : ℝ) : EReal) := by
  pointwise [distChunk]
  simp only [hq, hk, hn, coe_dot, ← EReal.coe_add, zero_add]

theorem chamChunk_at {k : FVec Ideal S3x2048 .bf16} {ksq : FVec Ideal S1x2048 .bf16} {K : Fin 3 → Fin 2048 → ℝ} {N : Fin 2048 → ℝ}
    (hq : ∀ r c, q (ix2 r c) = (Q r c : EReal)) (hk : ∀ c n, k (ix2 c n) = (K c n : EReal)) (hn : ∀ n, ksq (ix2 0 n) = (N n : EReal))
    (r : Fin 512) (n : Fin 2048) :
    chamChunk q k ksq (ix2 r n) = ((max ((∑ c, Q r c * Q r c) + N n + ∑ c, Q r c * K c n) 0 : ℝ) : EReal) := by
  pointwise [chamChunk]
  simp only [hq, hk, hn, coe_dot, ← EReal.coe_add, zero_add, ← EReal.coe_zero, coe_max]

variable {d : FVec Ideal S512x2048 .bf16} {D : Fin 512 → Fin 2048 → ℝ}

theorem rowSum_eq (hd : ∀ r j, d (ix2 r j) = (D r j : EReal)) : rowSum d = ((∑ r, ⨅ j, D r j : ℝ) : EReal) := by
  pointwise [rowSum]
  simp only [hd, top_bf16, fold_min, coe_sum]

theorem colStep_at {c : FVec Ideal S1x2048 .bf16} (hd : ∀ r j, d (ix2 r j) = (D r j : EReal)) (j : Fin 2048) :
    colStep c d (ix2 0 j) = min (c (ix2 0 j)) ((⨅ r, D r j : ℝ) : EReal) := by
  pointwise [colStep]
  simp only [hd, top_bf16, fold_min]

theorem farHalf_at (s : FVec Ideal S512x4096 .f32) (r : Fin 512) (j : Fin 2048) :
    farHalf s (ix2 r j) = s (ix2 r ⟨2048 + j, by omega⟩) := by
  pointwise [farHalf]

theorem pay68_at (v60 : FVec Ideal S512x2048 .f32) (s : FVec Ideal S512x4096 .f32) (r : Fin 512) (j : Fin 2048) :
    k0_pay68 (F := Ideal) v60 s (ix2 r j) = max (s (ix2 r ⟨j, by omega⟩)) (v60 (ix2 r j)) := by
  pointwise [k0_pay68]

variable {v60 : FVec Ideal S512x2048 .f32} {s : FVec Ideal S512x4096 .f32}

theorem pay67_at {e : FVec Ideal S512x2048 .f32} (he : ∀ r j, e (ix2 r j) = (D r j : EReal)) (r : Fin 512) :
    k0_pay67 (F := Ideal) e (ix2 r 0) = ((⨅ j, D r j : ℝ) : EReal) := by
  pointwise [k0_pay67]
  simp only [he, top_f32, fold_min]

theorem pay69_at {c : FVec Ideal S1x2048 .f32} (hd : ∀ r j, k0_pay68 (F := Ideal) v60 s (ix2 r j) = (D r j : EReal)) (j : Fin 2048) :
    k0_pay69 (F := Ideal) v60 c s (ix2 0 j) = min (c (ix2 0 j)) ((⨅ r, D r j : ℝ) : EReal) := by
  pointwise [k0_pay69]
  simp only [hd, top_f32, fold_min]

theorem pay70_at (hd : ∀ r j, k0_pay68 (F := Ideal) v60 s (ix2 r j) = (D r j : EReal)) (r : Fin 512) :
    k0_pay70 (F := Ideal) v60 s (ix2 r 0) = ((⨅ j, D r j : ℝ) : EReal) := by
  pointwise [k0_pay70]
  simp only [hd, top_f32, fold_min]

theorem pay71_at {v40 : FVec Ideal S2048x3 .bf16} {M : Fin 2048 → Fin 3 → ℝ} (hm : ∀ j c, v40 (ix2 j c) = (M j c : EReal))
    (hd : ∀ r j, k0_pay68 (F := Ideal) v60 s (ix2 r j) = (D r j : EReal)) (r : Fin 512) (c : Fin 3) :
    k0_pay71 (F := Ideal) v40 v60 s (ix2 r c) = ((∑ j, (if D r j = (⨅ j', D r j') then 1 else 0) * M j c : ℝ) : EReal) := by
  pointwise [k0_pay71, k0_pay70]
  simp only [hd, hm, top_f32, fold_min, indicator_f32, EReal.coe_eq_coe_iff, coe_dot, zero_add]

theorem pay72_at {mc : ℝ} (hd : ∀ r j, k0_pay68 (F := Ideal) v60 s (ix2 r j) = (D r j : EReal)) (r : Fin 512) :
    k0_pay72 (F := Ideal) v60 (mc : EReal) s (ix2 r 0) = ((mc * if (⨅ j, D r j) < 1 / 400 then 1 else 0 : ℝ) : EReal) := by
  pointwise [k0_pay72, pay70_at hd]
  simp only [near_sq_val, indicator_f32, EReal.coe_lt_coe_iff, ← EReal.coe_mul]

variable {v56 : IVec S512x128 32} {dy nm : FVec Ideal S512x3 .f32} {w : FVec Ideal S512x1 .f32} {old : FVec Ideal S512x128 .f32}
  {DY NM : Fin 512 → Fin 3 → ℝ} {W : Fin 512 → ℝ}

theorem accUpdA_at (h56 : ∀ r l, v56 (ix2 r l) = BitVec.ofNat 32 (l : Fin 128).val) (hdy : ∀ r c, dy (ix2 r c) = (DY r c : EReal))
    (hnm : ∀ r c, nm (ix2 r c) = (NM r c : EReal)) (hw : ∀ r, w (ix2 r 0) = (W r : EReal)) (r : Fin 512) (l : Fin 128) :
    accUpdA v56 dy nm w (ix2 r l) = (laneA (W r) (DY r) (NM r) l : EReal) := by
  pointwise [accUpdA, onLane, zeros, col0, col1, col2]
  simp only [h56, lane_select, hdy, hnm, hw, ← EReal.coe_mul, ← EReal.coe_zero, coe_ite]
  rfl

theorem accUpdB_at (h56 : ∀ r l, v56 (ix2 r l) = BitVec.ofNat 32 (l : Fin 128).val)
    (hnm : ∀ r c, nm (ix2 r c) = (NM r c : EReal)) (hw : ∀ r, w (ix2 r 0) = (W r : EReal)) (r : Fin 512) (l : Fin 128) :
    accUpdB v56 nm w (ix2 r l) = (laneB (W r) (NM r) l : EReal) := by
  pointwise [accUpdB, onLane, zeros, col0, col1, col2]
  simp only [h56, lane_select, hnm, hw, ← EReal.coe_zero, coe_ite]
  rfl

theorem pay82_eq (a : ℝ) (hdy : ∀ r c, dy (ix2 r c) = (DY r c : EReal)) (hw : ∀ r, w (ix2 r 0) = (W r : EReal)) :
    k0_pay82 (F := Ideal) (a : EReal) dy w = ((a + ∑ r, W r * ∑ c, DY r c * DY r c : ℝ) : EReal) := by
  pointwise [k0_pay82, k0_pay81]
  simp only [hdy, hw, coe_dot, Finset.univ_unique, Finset.sum_singleton, coe_sum, ← EReal.coe_add]

theorem pay83_eq (a : ℝ) {rb rc : FVec Ideal S512x1 .f32} {RB RC : Fin 512 → ℝ} (hdy : ∀ r c, dy (ix2 r c) = (DY r c : EReal))
    (hb : ∀ r, rb (ix2 r 0) = (RB r : EReal)) (hc : ∀ r, rc (ix2 r 0) = (RC r : EReal)) :
    k0_pay83 (F := Ideal) (a : EReal) dy rc rb
      = ((a + ∑ r, (if 1 / 25 < min (RB r) (RC r) then 1 else 0) * ∑ c, DY r c * DY r c : ℝ) : EReal) := by
  pointwise [k0_pay83, k0_pay81]
  simp only [hdy, hb, hc, coe_dot, far_sq_val, coe_min, EReal.coe_lt_coe_iff, indicator_f32, Finset.univ_unique, Finset.sum_singleton, coe_sum, ← EReal.coe_add]
end Readings
end Loss
-- ==== Proof.Body.lean ====
module

public import proofs.«01_k».proof.Proof.Chunk

@[expose] public section
set_option maxRecDepth 16384

/-! One batch of the kernel's body as formulas in the real numbers: the arrays a batch reads (`Batch`), what the body
computes of them, and the printed values of the body read as those formulas. -/

noncomputable section
open Idealize.ShloMosaic Idealize.ShloMosaic.TcCoe Idealize.SL.Sem
open Cert.KernelIdeal Cert.KernelIdeal.Gen

namespace Loss

/-- Row `r` of chunk `t`. -/
def row (t : Fin 4) (r : Fin 512) : Fin 2048 := ⟨t.val * 512 + r.val, by omega⟩
/-- A key of the near half, and of the far half, among all keys. -/
def lo (j : Fin 2048) : Fin 4096 := ⟨j.val, by omega⟩
def hi (j : Fin 2048) : Fin 4096 := ⟨2048 + j.val, by omega⟩

theorem row_surj (R : Fin 2048) : ∃ t r, row t r = R :=
  ⟨⟨R.val / 512, by omega⟩, ⟨R.val % 512, by omega⟩, Fin.ext (by simp only [row]; omega)⟩

theorem sum_rows (f : Fin 2048 → ℝ) :
    ∑ R, f R = (∑ r, f (row 0 r)) + (∑ r, f (row 1 r)) + (∑ r, f (row 2 r)) + ∑ r, f (row 3 r) := by
  rw [Fin.sum_univ_tiles 4 512 rfl f, Fin.sum_univ_four]
  rfl

theorem iInf_rows (f : Fin 2048 → ℝ) :
    (⨅ R, f R) = min (min (min (⨅ r, f (row 0 r)) (⨅ r, f (row 1 r))) (⨅ r, f (row 2 r))) (⨅ r, f (row 3 r)) := by
  apply le_antisymm
  · refine le_min (le_min (le_min ?_ ?_) ?_) ?_ <;> exact le_ciInf fun r => iInf_le_at f _
  · refine le_ciInf fun R => ?_
    obtain ⟨t, r, rfl⟩ := row_surj R
    refine le_trans ?_ (iInf_le_at (fun r => f (row t r)) r)
    fin_cases t
    · exact (min_le_left _ _).trans ((min_le_left _ _).trans (min_le_left _ _))
    · exact (min_le_left _ _).trans ((min_le_left _ _).trans (min_le_right _ _))
    · exact (min_le_left _ _).trans (min_le_right _ _)
    · exact min_le_right _ _

/-- The constant one tenth of the program: the number of its word. -/
def tenth : ℝ := 13421773 / 134217728

theorem tenth_val : Ideal.ofBits .f32 0x3DCCCCCD#32 = (tenth : EReal) := by
  simp [Ideal.ofBits, Ideal.ieee, tenth, -EReal.coe_mul]; norm_num

theorem neg_two_val : Ideal.ofBits .f32 0xC0000000#32 = ((-2 : ℝ) : EReal) := by
  simp [Ideal.ofBits, Ideal.ieee, -EReal.coe_mul]; norm_num

theorem n2048_val : Ideal.ofBits .f32 0x45000000#32 = ((2048 : ℝ) : EReal) := by
  simp [Ideal.ofBits, Ideal.ieee, -EReal.coe_mul]; norm_num

/-- The small step of the tie break: the number of its word. -/
def tiny : ℝ := 10633824 / 2 ^ 123

theorem tiny_val : Ideal.ofBits .f32 0x0DA24260#32 = (tiny : EReal) := by
  simp [Ideal.ofBits, Ideal.ieee, tiny, -EReal.coe_mul]; norm_num

/-- What one batch of the body reads. -/
structure Batch where
  X1 : Fin 2048 → Fin 6 → ℝ
  X2 : Fin 2048 → Fin 6 → ℝ
  XT : Fin 3 → Fin 2048 → ℝ
  KC : Fin 3 → Fin 4096 → ℝ
  Y0 : Fin 2048 → Fin 3 → ℝ
  Y1 : Fin 2048 → Fin 3 → ℝ
  Wa : Fin 6 → Fin 64 → ℝ
  Wb : Fin 6 → Fin 64 → ℝ
  B1 : Fin 64 → ℝ
  W2 : Fin 64 → Fin 3 → ℝ
  B2 : Fin 3 → ℝ

namespace Batch
variable (I : Batch)

/-- The motion of a point: two layers. -/
def pre (r : Fin 2048) (h : Fin 64) : ℝ := (∑ c, I.X1 r c * I.Wa c h) + (∑ c, I.X2 r c * I.Wb c h) + I.B1 h
def mv (r : Fin 2048) (c : Fin 3) : ℝ := (∑ h, max (I.pre r h) 0 * I.W2 h c) + I.B2 c
/-- The moved point. -/
def hat (r : Fin 2048) (c : Fin 3) : ℝ := I.X1 r ⟨c.val, by omega⟩ + I.mv r c
/-- Squared distance of a moved point to a later point, no less than zero. -/
def cham (r j : Fin 2048) : ℝ := max ((∑ c, I.hat r c * I.hat r c) + (∑ c, I.XT c j * I.XT c j) + ∑ c, I.hat r c * (I.XT c j * -2)) 0
/-- The batch's chamfer loss, and whether it is below one tenth. -/
def chamLoss : ℝ := (∑ r, ⨅ j, I.cham r j) / 2048 + (∑ j, ⨅ r, I.cham r j) / 2048
def mc : ℝ := if I.chamLoss < tenth then 1 else 0
/-- Squared distance of a query point to a key. -/
def sq (r : Fin 2048) (n : Fin 4096) : ℝ := (∑ c, I.Y0 r c * I.Y0 r c) + (∑ c, I.KC c n * I.KC c n) + ∑ c, I.Y0 r c * (I.KC c n * -2)
def near (r : Fin 2048) : ℝ := ⨅ j, I.sq r (lo j)
def far (r : Fin 2048) : ℝ := ⨅ j, I.sq r (hi j)
/-- The motions of the near keys at the least distance, added up. -/
def nm (r : Fin 2048) (c : Fin 3) : ℝ := ∑ j, (if I.sq r (lo j) = I.near r then 1 else 0) * I.mv j c
/-- The row's weight. -/
def w (r : Fin 2048) : ℝ := I.mc * if I.near r < 1 / 400 then 1 else 0
def dy (r : Fin 2048) (c : Fin 3) : ℝ := I.Y1 r c - I.Y0 r c
def dy2 (r : Fin 2048) : ℝ := ∑ c, I.dy r c * I.dy r c
/-- The weighted squares, the squares of the rows far from every key, and the near distances below one tenth. -/
def asum : ℝ := ∑ r, I.w r * I.dy2 r
def stat : ℝ := ∑ r, (if 1 / 25 < min (I.near r) (I.far r) then 1 else 0) * I.dy2 r
def d1 (j : Fin 2048) : ℝ := ⨅ r, I.sq r (lo j)
def sel (j : Fin 2048) : ℝ := if I.d1 j < tenth then 1 else 0
def dsum : ℝ := ∑ j, I.sel j * I.d1 j
def cnt : ℝ := ∑ j, I.sel j

/-- The squared distances to the near keys are no less than the tie break. -/
structure Apart : Prop where
  above : ∀ r j, (j.val : ℝ) * tiny ≤ I.sq r (lo j)

/-- The arrays a batch of the body loads. -/
structure Loads (x0 x1 : FVec Ideal S1x2048x6 .f32) (x2 : FVec Ideal S1x3x2048 .f32) (x3 : FVec Ideal S1x3x4096 .f32)
    (x4 x5 : FVec Ideal S1x2048x3 .f32) (x6 x7 : FVec Ideal S6x64 .f32) (x8 : FVec Ideal S1x64 .f32) (x9 : FVec Ideal S64x3 .f32)
    (x10 : FVec Ideal S1x3 .f32) : Prop where
  h0 : ∀ r c, x0 (ix3 0 r c) = (I.X1 r c : EReal)
  h1 : ∀ r c, x1 (ix3 0 r c) = (I.X2 r c : EReal)
  h2 : ∀ c j, x2 (ix3 0 c j) = (I.XT c j : EReal)
  h3 : ∀ c n, x3 (ix3 0 c n) = (I.KC c n : EReal)
  h4 : ∀ r c, x4 (ix3 0 r c) = (I.Y0 r c : EReal)
  h5 : ∀ r c, x5 (ix3 0 r c) = (I.Y1 r c : EReal)
  h6 : ∀ c h, x6 (ix2 c h) = (I.Wa c h : EReal)
  h7 : ∀ c h, x7 (ix2 c h) = (I.Wb c h : EReal)
  h8 : ∀ h, x8 (ix2 0 h) = (I.B1 h : EReal)
  h9 : ∀ h c, x9 (ix2 h c) = (I.W2 h c : EReal)
  h10 : ∀ c, x10 (ix2 0 c) = (I.B2 c : EReal)
end Batch

section Readings
variable {I : Batch} {x0 x1 : FVec Ideal S1x2048x6 .f32} {x2 : FVec Ideal S1x3x2048 .f32} {x3 : FVec Ideal S1x3x4096 .f32}
    {x4 x5 : FVec Ideal S1x2048x3 .f32} {x6 x7 : FVec Ideal S6x64 .f32} {x8 : FVec Ideal S1x64 .f32} {x9 : FVec Ideal S64x3 .f32}
    {x10 : FVec Ideal S1x3 .f32} (L : I.Loads x0 x1 x2 x3 x4 x5 x6 x7 x8 x9 x10)
include L

theorem pay22_at (r : Fin 2048) (h : Fin 64) :
    k0_pay22 (F := Ideal) x0 x1 x6 x7 x8 (ix2 r h) = (I.pre r h : EReal) := by
  pointwise [k0_pay22, k0_pay17]
  simp only [L.h0, L.h1, L.h6, L.h7, L.h8, coe_dot, zero_add, ← EReal.coe_add]
  rfl

theorem pay24_at (r : Fin 2048) (c : Fin 3) :
    k0_pay24 (F := Ideal) (k0_pay22 x0 x1 x6 x7 x8) x9 x10 (ix2 r c) = (I.mv r c : EReal) := by
  pointwise [k0_pay24, k0_pay23]
  simp only [pay22_at L, L.h9, L.h10, ← EReal.coe_zero, coe_max, coe_dot, ← EReal.coe_add, zero_add]
  rfl

theorem pay25_at (r : Fin 2048) (c : Fin 3) :
    k0_pay25 (F := Ideal) (k0_pay17 x0) (k0_pay22 x0 x1 x6 x7 x8) x9 x10 (ix2 r c) = (I.hat r c : EReal) := by
  have e := pay24_at L r c
  pointwise [k0_pay24] at e
  pointwise [k0_pay25, k0_pay17]
  simp only [e, L.h0, ← EReal.coe_add]
  rfl

theorem pay26_at (c : Fin 3) (j : Fin 2048) : k0_pay26 (F := Ideal) (k0_pay18 x2) (ix2 c j) = ((I.XT c j * -2 : ℝ) : EReal) := by
  pointwise [k0_pay26, k0_pay18]
  simp only [L.h2, neg_two_val, ← EReal.coe_mul]

theorem pay28_at (j : Fin 2048) : k0_pay28 (F := Ideal) (k0_pay18 x2) (ix2 0 j) = ((∑ c, I.XT c j * I.XT c j : ℝ) : EReal) := by
  pointwise [k0_pay28, k0_pay18]
  simp only [L.h2, coe_dot]

theorem pay27_at (c : Fin 3) (n : Fin 4096) : k0_pay27 (F := Ideal) (k0_pay19 x3) (ix2 c n) = ((I.KC c n * -2 : ℝ) : EReal) := by
  pointwise [k0_pay27, k0_pay19]
  simp only [L.h3, neg_two_val, ← EReal.coe_mul]

theorem pay29_at (n : Fin 4096) : k0_pay29 (F := Ideal) (k0_pay19 x3) (ix2 0 n) = ((∑ c, I.KC c n * I.KC c n : ℝ) : EReal) := by
  pointwise [k0_pay29, k0_pay19]
  simp only [L.h3, coe_dot]

theorem pay20_at (r : Fin 2048) (c : Fin 3) : k0_pay20 (F := Ideal) x4 (ix2 r c) = (I.Y0 r c : EReal) := by
  pointwise [k0_pay20]
  exact L.h4 r c

theorem pay21_at (r : Fin 2048) (c : Fin 3) : k0_pay21 (F := Ideal) x5 (ix2 r c) = (I.Y1 r c : EReal) := by
  pointwise [k0_pay21]
  exact L.h5 r c
omit L

theorem pay30_at (r : Fin 512) (j : Fin 2048) : k0_pay30 (F := Ideal) (ix2 r j) = (((j.val : ℝ) * tiny : ℝ) : EReal) := by
  pointwise [k0_pay30]
  have e : (BitVec.ofNat 32 j.val).toInt = (j.val : Int) := by
    rw [BitVec.toInt_eq_toNat_of_lt (by rw [BitVec.toNat_ofNat]; omega), BitVec.toNat_ofNat, Nat.mod_eq_of_lt (by omega)]
  rw [tiny_val, EReal.coe_mul]
  simp [FloatOps.sitofp, e]

/-- The four chunks of rows of an array of points. -/
def rows (t : Fin 4) (v : FVec Ideal S2048x3 .f32) : FVec Ideal S512x3 .f32 := match t with
  | 0 => extractStridedSlice S512x3 ![0, 0] v slices_S2048x3_o0_0_S512x3
  | 1 => extractStridedSlice S512x3 ![512, 0] v slices_S2048x3_o512_0_S512x3
  | 2 => extractStridedSlice S512x3 ![1024, 0] v slices_S2048x3_o1024_0_S512x3
  | 3 => extractStridedSlice S512x3 ![1536, 0] v slices_S2048x3_o1536_0_S512x3

theorem rows_at (t : Fin 4) (v : FVec Ideal S2048x3 .f32) (r : Fin 512) (c : Fin 3) : rows t v (ix2 r c) = v (ix2 (row t r) c) := by
  fin_cases t <;> (simp only [rows]; pointwise; exact congrArg (fun i => v (ix2 i c)) (Fin.ext (by simp [row])))

end Readings
end Loss
-- ==== Proof.Step.lean ====
module

public import proofs.«01_k».proof.Proof.Body

@[expose] public section
set_option maxRecDepth 16384

/-! One batch of the body, put together from the chunks: what it adds to each of the three accumulators, as functions of
the loaded blocks, and these functions read as the formulas of `Batch`. -/

noncomputable section
open Idealize.ShloMosaic Idealize.ShloMosaic.TcCoe Idealize.SL.Sem
open Cert.KernelIdeal Cert.KernelIdeal.Gen

namespace Loss

/-- The blocks a batch of the body loads. -/
structure Blk where
  x0 : FVec Ideal S1x2048x6 .f32
  x1 : FVec Ideal S1x2048x6 .f32
  x2 : FVec Ideal S1x3x2048 .f32
  x3 : FVec Ideal S1x3x4096 .f32
  x4 : FVec Ideal S1x2048x3 .f32
  x5 : FVec Ideal S1x2048x3 .f32
  x6 : FVec Ideal S6x64 .f32
  x7 : FVec Ideal S6x64 .f32
  x8 : FVec Ideal S1x64 .f32
  x9 : FVec Ideal S64x3 .f32
  x10 : FVec Ideal S1x3 .f32

/-- The sum of a row of 2048 numbers. -/
def total (v : FVec Ideal S1x2048 .f32) : Ideal .f32 :=
  extractAt ![0, 0, 0] (shapeCast S1x1x1 (multiReduction .add [1, 2] S1 (shapeCast S1x1x2048 v shapeCasts_S1x2048_S1x1x2048) 0x00000000#32 reduces_S1x1x2048_S1 (.inl rfl) rfl) shapeCasts_S1_S1x1x1) inpos_S1x1x1_p0_0_0

/-- The lane number, on every row. -/
def lanes : IVec S512x128 32 := iota .tc S512x128 32 [1] iota_S512x128_d1_w32

namespace Blk
variable (B : Blk)

def hidden : FVec Ideal S2048x64 .f32 := k0_pay22 B.x0 B.x1 B.x6 B.x7 B.x8
def motion : FVec Ideal S2048x3 .bf16 := k0_pay24 B.hidden B.x9 B.x10
def moved : FVec Ideal S2048x3 .f32 := k0_pay25 (k0_pay17 B.x0) B.hidden B.x9 B.x10
/-- The chamfer distances of a chunk of rows, and whether the chamfer loss is small. -/
def ch (t : Fin 4) : FVec Ideal S512x2048 .bf16 := chamChunk (rows t B.moved) (k0_pay26 (k0_pay18 B.x2)) (k0_pay28 (k0_pay18 B.x2))
def chRows : Ideal .f32 :=
  Scalar.addf (Scalar.addf (Scalar.addf (Scalar.addf (Scalar.ofBits .f32 0x00000000#32) (rowSum (B.ch 0))) (rowSum (B.ch 1))) (rowSum (B.ch 2))) (rowSum (B.ch 3))
def chCols : FVec Ideal S1x2048 .bf16 := colStep (colStep (colStep (colStep k0_pay31 (B.ch 0)) (B.ch 1)) (B.ch 2)) (B.ch 3)
def small : Ideal .f32 :=
  Scalar.sitofp .f32 (Scalar.extui (Scalar.cmpf .olt (Scalar.addf (Scalar.divf B.chRows (Scalar.ofBits .f32 0x45000000#32))
    (Scalar.divf (total (extf .f32 B.chCols bitsLt_bf16_f32)) (Scalar.ofBits .f32 0x45000000#32))) (Scalar.ofBits .f32 0x3DCCCCCD#32)))
/-- A chunk's differences, distances to all keys, least distances, nearest motion and weight. -/
def q (t : Fin 4) : FVec Ideal S512x3 .f32 := rows t (k0_pay20 B.x4)
def dy (t : Fin 4) : FVec Ideal S512x3 .f32 := subf (rows t (k0_pay21 B.x5)) (B.q t)
def s (t : Fin 4) : FVec Ideal S512x4096 .f32 := distChunk (B.q t) (k0_pay27 (k0_pay19 B.x3)) (k0_pay29 (k0_pay19 B.x3))
def rb (t : Fin 4) : FVec Ideal S512x1 .f32 := k0_pay70 k0_pay30 (B.s t)
def rc (t : Fin 4) : FVec Ideal S512x1 .f32 := k0_pay67 (farHalf (B.s t))
def nm (t : Fin 4) : FVec Ideal S512x3 .f32 := k0_pay71 B.motion k0_pay30 (B.s t)
def w (t : Fin 4) : FVec Ideal S512x1 .f32 := k0_pay72 k0_pay30 B.small (B.s t)
/-- What a chunk adds to its rows of the two accumulators. -/
def updA (t : Fin 4) : FVec Ideal S512x128 .f32 := accUpdA lanes (B.dy t) (B.nm t) (B.w t)
def updB (t : Fin 4) : FVec Ideal S512x128 .f32 := accUpdB lanes (B.nm t) (B.w t)
/-- The batch's four sums, and the third accumulator. -/
def asum : Ideal .f32 := k0_pay82 (k0_pay82 (k0_pay82 (k0_pay82 (Scalar.ofBits .f32 0x00000000#32) (B.dy 0) (B.w 0)) (B.dy 1) (B.w 1)) (B.dy 2) (B.w 2)) (B.dy 3) (B.w 3)
def stat : Ideal .f32 :=
  k0_pay83 (k0_pay83 (k0_pay83 (k0_pay83 (Scalar.ofBits .f32 0x00000000#32) (B.dy 0) (B.rc 0) (B.rb 0)) (B.dy 1) (B.rc 1) (B.rb 1)) (B.dy 2) (B.rc 2) (B.rb 2)) (B.dy 3) (B.rc 3) (B.rb 3)
def cols : FVec Ideal S1x2048 .f32 :=
  k0_pay69 k0_pay30 (k0_pay69 k0_pay30 (k0_pay69 k0_pay30 (k0_pay69 k0_pay30 (broadcast S1x2048 (Scalar.ofBits .f32 0x7F800000#32)) (B.s 0)) (B.s 1)) (B.s 2)) (B.s 3)
def accS (old : FVec Ideal S1x128 .f32) : FVec Ideal S1x128 .f32 := k0_pay131 B.asum B.stat (k0_pay129 B.cols) (k0_pay130 B.cols) old

/-- The blocks hold the batch's real numbers. -/
abbrev Holds (B : Blk) (I : Batch) : Prop := I.Loads B.x0 B.x1 B.x2 B.x3 B.x4 B.x5 B.x6 B.x7 B.x8 B.x9 B.x10
end Blk

theorem lanes_at (r : Fin 512) (l : Fin 128) : lanes (ix2 r l) = BitVec.ofNat 32 l.val := by pointwise [lanes]

theorem total_eq {v : FVec Ideal S1x2048 .f32} {V : Fin 2048 → ℝ} (h : ∀ j, v (ix2 0 j) = (V j : EReal)) : total v = ((∑ j, V j : ℝ) : EReal) := by
  pointwise [total]
  simp only [h, coe_sum, Finset.univ_unique, Finset.sum_singleton]

theorem sumsRow_at (a b d : Ideal .f32) (v : FVec Ideal S1x2048 .f32) (old : FVec Ideal S1x128 .f32) (l : Fin 128) :
    k0_pay131 a b d (shapeCast S1x1x2048 v shapeCasts_S1x2048_S1x1x2048) old (ix2 0 l)
      = old (ix2 0 l) + ((((if l.val = 0 then a else 0) + if l.val = 1 then b else 0) + if l.val = 2 then d else 0) + if l.val = 3 then total v else 0) := by
  pointwise [k0_pay131, total]
  simp only [lane_select]
  rfl

section Readings
variable {B : Blk} {I : Batch} (L : B.Holds I)
include L

theorem ch_at (t : Fin 4) (r : Fin 512) (j : Fin 2048) : B.ch t (ix2 r j) = (I.cham (row t r) j : EReal) :=
  chamChunk_at (Q := fun r c => I.hat (row t r) c) (fun r c => (rows_at t _ r c).trans (pay25_at L _ c)) (pay26_at L) (pay28_at L) r j

theorem chRows_eq : B.chRows = ((∑ r, ⨅ j, I.cham r j : ℝ) : EReal) := by
  rw [sum_rows]
  simp only [Blk.chRows, rowSum_eq (ch_at L _)]
  pointwise
  simp only [← EReal.coe_add, zero_add]

theorem chCols_at (j : Fin 2048) : B.chCols (ix2 0 j) = ((⨅ r, I.cham r j : ℝ) : EReal) := by
  have h0 : k0_pay31 (F := Ideal) (ix2 0 j) = (⊤ : EReal) := by pointwise [k0_pay31]; exact top_bf16
  rw [iInf_rows]
  simp only [Blk.chCols, colStep_at (ch_at L _), h0, min_eq_right le_top, coe_min]

theorem small_eq : B.small = (I.mc : EReal) := by
  have h : total (extf .f32 B.chCols bitsLt_bf16_f32) = ((∑ j, ⨅ r, I.cham r j : ℝ) : EReal) :=
    total_eq fun j => by pointwise; exact chCols_at L j
  pointwise [Blk.small]
  rw [h, chRows_eq L, n2048_val, tenth_val]
  simp only [Ideal.div_coe (show (2048 : ℝ) ≠ 0 by norm_num), ← EReal.coe_mul, ← EReal.coe_add, EReal.coe_lt_coe_iff]
  rw [show (∑ r, ⨅ j, I.cham r j) * (1 / 2048) + (∑ j, ⨅ r, I.cham r j) * (1 / 2048) = I.chamLoss by rw [Batch.chamLoss]; ring]
  exact indicator_f32 _

theorem dy_at (t : Fin 4) (r : Fin 512) (c : Fin 3) : B.dy t (ix2 r c) = (I.dy (row t r) c : EReal) := by
  pointwise [Blk.dy, Blk.q]
  rw [rows_at, rows_at, pay21_at L, pay20_at L, ← EReal.coe_sub]
  rfl

theorem s_at (t : Fin 4) (r : Fin 512) (n : Fin 4096) : B.s t (ix2 r n) = (I.sq (row t r) n : EReal) :=
  distChunk_at (Q := fun r c => I.Y0 (row t r) c) (fun r c => (rows_at t _ r c).trans (pay20_at L _ c)) (pay27_at L) (pay29_at L) r n

theorem rc_at (t : Fin 4) (r : Fin 512) : B.rc t (ix2 r 0) = (I.far (row t r) : EReal) :=
  pay67_at (D := fun r j => I.sq (row t r) (hi j)) (fun r j => (farHalf_at _ r j).trans (s_at L t r _)) r

variable (A : I.Apart)
include A

theorem d_at (t : Fin 4) (r : Fin 512) (j : Fin 2048) : k0_pay68 (F := Ideal) k0_pay30 (B.s t) (ix2 r j) = (I.sq (row t r) (lo j) : EReal) := by
  rw [pay68_at, s_at L, pay30_at, coe_max]
  exact congrArg _ (max_eq_left (A.above _ j))

theorem rb_at (t : Fin 4) (r : Fin 512) : B.rb t (ix2 r 0) = (I.near (row t r) : EReal) := pay70_at (d_at L A t) r

theorem nm_at (t : Fin 4) (r : Fin 512) (c : Fin 3) : B.nm t (ix2 r c) = (I.nm (row t r) c : EReal) :=
  pay71_at (pay24_at L) (d_at L A t) r c

theorem w_at (t : Fin 4) (r : Fin 512) : B.w t (ix2 r 0) = (I.w (row t r) : EReal) := by
  rw [Blk.w, small_eq L]
  exact pay72_at (d_at L A t) r

theorem updA_at (t : Fin 4) (r : Fin 512) (l : Fin 128) :
    B.updA t (ix2 r l) = (laneA (I.w (row t r)) (I.dy (row t r)) (I.nm (row t r)) l : EReal) :=
  accUpdA_at lanes_at (dy_at L t) (nm_at L A t) (w_at L A t) r l

theorem updB_at (t : Fin 4) (r : Fin 512) (l : Fin 128) :
    B.updB t (ix2 r l) = (laneB (I.w (row t r)) (I.nm (row t r)) l : EReal) :=
  accUpdB_at lanes_at (nm_at L A t) (w_at L A t) r l

theorem asum_eq : B.asum = (I.asum : EReal) := by
  have h0 : (Scalar.ofBits .f32 0x00000000#32 : Ideal .f32) = ((0 : ℝ) : EReal) := by
    pointwise
    exact EReal.coe_zero.symm
  rw [Blk.asum, h0, pay82_eq _ (dy_at L 0) (w_at L A 0), pay82_eq _ (dy_at L 1) (w_at L A 1), pay82_eq _ (dy_at L 2) (w_at L A 2),
    pay82_eq _ (dy_at L 3) (w_at L A 3), zero_add, Batch.asum, sum_rows]
  simp only [Batch.dy2]

theorem stat_eq : B.stat = (I.stat : EReal) := by
  have h0 : (Scalar.ofBits .f32 0x00000000#32 : Ideal .f32) = ((0 : ℝ) : EReal) := by
    pointwise
    exact EReal.coe_zero.symm
  rw [Blk.stat, h0, pay83_eq _ (dy_at L 0) (rb_at L A 0) (rc_at L 0), pay83_eq _ (dy_at L 1) (rb_at L A 1) (rc_at L 1),
    pay83_eq _ (dy_at L 2) (rb_at L A 2) (rc_at L 2), pay83_eq _ (dy_at L 3) (rb_at L A 3) (rc_at L 3), zero_add, Batch.stat, sum_rows]
  simp only [Batch.dy2]

theorem cols_at (j : Fin 2048) : B.cols (ix2 0 j) = (I.d1 j : EReal) := by
  have h0 : (broadcast S1x2048 (Scalar.ofBits .f32 0x7F800000#32) : FVec Ideal S1x2048 .f32) (ix2 0 j) = (⊤ : EReal) := by
    pointwise; exact top_f32
  rw [Batch.d1, iInf_rows]
  simp only [Blk.cols, pay69_at (d_at L A _), h0, min_eq_right le_top, coe_min]

theorem sel_at (j : Fin 2048) : k0_pay128 (F := Ideal) B.cols (ix2 0 j) = (I.sel j : EReal) := by
  pointwise [k0_pay128]
  rw [cols_at L A, tenth_val, indicator_f32]
  simp only [EReal.coe_lt_coe_iff, Batch.sel]

theorem dsum_eq : k0_pay129 (F := Ideal) B.cols = (I.dsum : EReal) :=
  total_eq (v := mulf (k0_pay128 B.cols) B.cols) fun j => by
    pointwise
    rw [sel_at L A, cols_at L A, EReal.coe_mul]

theorem cnt_eq : total (k0_pay128 (F := Ideal) B.cols) = (I.cnt : EReal) := total_eq (sel_at L A)

/-- The four lanes of the third accumulator. -/
theorem accS_at (old : FVec Ideal S1x128 .f32) (l : Fin 128) :
    B.accS old (ix2 0 l) = old (ix2 0 l) + (((if l.val = 0 then I.asum else 0) + (if l.val = 1 then I.stat else 0)
      + (if l.val = 2 then I.dsum else 0) + (if l.val = 3 then I.cnt else 0) : ℝ) : EReal) := by
  have h := sumsRow_at B.asum B.stat (k0_pay129 B.cols) (k0_pay128 B.cols) old l
  simp only [asum_eq L A, stat_eq L A, dsum_eq L A, cnt_eq L A] at h
  rw [Blk.accS, asum_eq L A, stat_eq L A, dsum_eq L A]
  refine h.trans ?_
  simp only [← EReal.coe_zero, coe_ite, ← EReal.coe_add]
end Readings
end Loss
-- ==== Proof.Point.lean ====
module

public import proofs.«01_k».proof.Proof.Step
public import proofs.«01_k».proof.Proof.Gen.KernelIdeal.Frame
public import Idealize.ShloMosaic.Lib.Pipeline.ValueKit
public import Idealize.ShloMosaic.Lib.Pipeline.ReadBack

@[expose] public section
set_option maxRecDepth 16384

/-! What one grid point leaves in the accumulators and in the output. -/

noncomputable section
open Idealize.ShloMosaic Idealize.ShloMosaic.TcCoe Idealize.SL.Sem
open Cert.KernelIdeal Cert.KernelIdeal.Gen

namespace Loss
variable (m : (ℓ : Loc nD τ sig) → Buf (Elt Ideal) ℓ)

/-- The blocks loaded at a grid point. -/
def blk (c : Dev nD) (t : Fin cfg0.N) : Blk :=
  ⟨iblk m c 0 t, iblk m c 1 t, iblk m c 2 t, iblk m c 3 t, iblk m c 4 t, iblk m c 5 t, iblk m c 6 t, iblk m c 7 t, iblk m c 8 t, iblk m c 9 t, iblk m c 10 t⟩

/-- Rows stored by chunk `j`: the old rows plus the chunk's gain. -/
theorem stored {O U : FVec Ideal S512x128 .f32} {V : Fin 4 → FVec Ideal S512x128 .f32} (j k : Fin 4) (r : Fin 512) (l : Fin 128) (x : S512x128.Idx) (X : Fin 2048 → Fin 128 → EReal)
    (h0 : (row k r).val = 512 * j.val + (x 0).val) (h1 : l.val = (x 1).val) (hU : U = V j) (hO : ∀ y : S512x128.Idx, O y = X (row j (y 0)) (y 1)) :
    shapeCast S512x128 (addf O U) shapeCasts_S512x128_S512x128 x = X (row k r) l + V k (ix2 r l) := by
  have hr := r.isLt
  have hx : (x 0).val < 512 := (x 0).isLt
  have hj : j = k := Fin.ext (by simp only [row] at h0; omega)
  subst hj hU
  have e : x = ix2 r l := by
    refine funext fun d => Fin.ext ?_
    fin_cases d
    · simp only [row] at h0; show (x 0).val = r.val; omega
    · exact h1.symm
  subst e
  pointwise
  rw [hO]
  rfl

theorem ld_row (X : S2048x128.Idx → Elt Ideal .f32) (j : Fin 4) {off : Fin 2 → ℕ} {inb} (y : S512x128.Idx) (h : off = ![512 * j.val, 0]) :
    View.ld (Val := Elt Ideal) (e' := .f32) X (Rect.unit (s := S2048x128) off ![512, 128] inb) y = X (ix2 (row j (y 0)) (y 1)) := by
  subst h
  refine congrArg X (funext fun d => Fin.ext ?_)
  fin_cases d
  · simp [row, Nat.mul_comm]
  · simp

theorem carried_row (X : S2048x128.Idx → Elt Ideal .f32) (j : Fin 4) {off : Fin 2 → ℕ} {inb} (y : S512x128.Idx) (h : off = ![512 * j.val, 0])
    {Y : S2048x128.Idx → Elt Ideal .f32} (hY : Y = X) : View.ld (Val := Elt Ideal) (e' := .f32) Y (Rect.unit (s := S2048x128) off ![512, 128] inb) y = X (ix2 (row j (y 0)) (y 1)) := by
  subst hY
  exact ld_row _ j y h

theorem zero14 (i : S2048x128.Idx) : k0_pay14 (F := Ideal) i = (0 : EReal) := by pointwise [k0_pay14]
theorem zero15 (i : S2048x128.Idx) : k0_pay15 (F := Ideal) i = (0 : EReal) := by pointwise [k0_pay15]
theorem at_zero : ∀ a : Fin 2, (![0, 0] : Fin 2 → ℕ) a = 0 := by decide

section Reads
variable {v : View sig .tc .vmem S2048x128 .f32} {L : List (View.Piece (Elt Ideal) S2048x128 .f32)} {z : EReal}

/-- A read of the first accumulators passes over the rows stored elsewhere, to the fill. -/
theorem skip_at {r : Rect S2048x128} {w : r.shape.Idx → Elt Ideal .f32} {B : LoadRect S2048x128} {y} (hd : LoadRect.disj r B = true)
    (h : v.readCov L B y = z) : v.readCov (⟨r, w⟩ :: L) B y = z :=
  (congrFun (View.readCov_skip v r w L B hd) y).trans h

theorem fill_at {off : Fin 2 → ℕ} {inb : ∀ a, off a + S2048x128.size a ≤ S2048x128.size a} {Z : S2048x128.Idx → Elt Ideal .f32} {r : Rect S2048x128}
    {y} (h : ∀ a, off a = 0) (hZ : ∀ i, Z i = z) : v.readCov (⟨Rect.unit off S2048x128.size inb, Z⟩ :: L) r.toLoadRect y = z :=
  (congrFun (View.readCov_fill v inb Z L r h) y).trans (hZ _)

variable {j k : Fin 4} {off : Fin 2 → ℕ} {inb : ∀ a, off a + (![512, 128] : Fin 2 → ℕ) a ≤ S2048x128.size a} {w : S512x128.Idx → Elt Ideal .f32}
  {r : Fin 512} {l : Fin 128}

/-- What the rows hold that the newest store wrote, and what they hold if it wrote other rows. -/
theorem row_hit (h : off = ![512 * j.val, 0]) (hw : w (ix2 r l) = z) :
    View.canon (⟨Rect.unit (s := S2048x128) off ![512, 128] inb, w⟩ :: L) (ix2 (row j r) l) = z := by
  subst h
  refine Eq.trans (congrArg _ (funext fun d => Fin.ext ?_)) ((View.canon_cons_emb (Rect.unit (s := S2048x128) ![512 * j.val, 0] ![512, 128] inb) w L (ix2 r l)).trans hw)
  fin_cases d
  · show (row j r).val = ((Rect.unit (s := S2048x128) ![512 * j.val, 0] ![512, 128] inb).idx (ix2 r l) 0).val
    simp [row, Nat.mul_comm]
  · show l.val = ((Rect.unit (s := S2048x128) ![512 * j.val, 0] ![512, 128] inb).idx (ix2 r l) 1).val
    simp

theorem row_skip (h : off = ![512 * j.val, 0]) (hjk : j ≠ k) (hL : View.canon L (ix2 (row k r) l) = z) :
    View.canon (⟨Rect.unit (s := S2048x128) off ![512, 128] inb, w⟩ :: L) (ix2 (row k r) l) = z := by
  subst h
  refine (View.canon_cons_of_not_mem _ _ fun hm => hjk ?_).trans hL
  have h := (Rect.mem_set_unit (inb := inb)).1 hm 0
  have hr := r.isLt
  refine Fin.ext ?_
  simp [row] at h
  omega

/-- A read of a whole accumulator. -/
theorem read_all {inb : ∀ a, (![0, 0] : Fin 2 → ℕ) a + (![2048, 128] : Fin 2 → ℕ) a ≤ S2048x128.size a} :
    v.readCov L (Rect.unit (s := S2048x128) ![0, 0] ![2048, 128] inb).toLoadRect = View.canon L := by
  rw [View.readCov_eq_canon']
  funext y
  refine congrArg _ (funext fun d => Fin.ext ?_)
  fin_cases d
  · show ((Rect.unit (s := S2048x128) ![0, 0] ![2048, 128] inb).idx y 0).val = (y 0).val
    simp
  · show ((Rect.unit (s := S2048x128) ![0, 0] ![2048, 128] inb).idx y 1).val = (y 1).val
    simp
end Reads

/-- The third accumulator's new row, from its parts. -/
theorem sums_stored {B : Blk} {a b d : Ideal .f32} {v : FVec Ideal S1x1x2048 .f32} {o X : FVec Ideal S1x128 .f32} (ha : a = B.asum) (hb : b = B.stat)
    (hd : d = k0_pay129 B.cols) (hv : v = k0_pay130 B.cols) (ho : o = X) : k0_pay131 a b d v o = B.accS X := by
  rw [ha, hb, hd, hv, ho, Blk.accS]

/-! Every point after the first adds the batch's gain to what the point before left. -/
section Next
variable (c : Dev nD) (t : Fin cfg0.N) (h0 : ¬t.val % 4 = 0) (k : Fin 4) (r : Fin 512) (l : Fin 128)
include h0

theorem accA_next :
    (outsAt0 m c t.val t.isLt).2.1 (ix2 (row k r) l)
      = (outsAt0 m c (t.val - 1) (by have := t.isLt; omega)).2.1 (ix2 (row k r) l) + (blk m c t).updA k (ix2 r l) := by
  by_cases h1 : t.val % 4 = 3
  on_goal 1 => rw [outsAt0_C m c t h0 h1]
  on_goal 2 => rw [outsAt0_B m c t h0 h1]
  all_goals
    generalize outsAt0 m c (t.val - 1) _ = old
    frame_out
    canon_tiles x h
    · exact stored 3 k r l x (fun R l => old.2.1 (ix2 R l)) h0 h1 (by sl_kernel_rfl) fun y => carried_row _ 3 y rfl (read_unread_whole _ _ _)
    · exact stored 2 k r l x (fun R l => old.2.1 (ix2 R l)) h0 h1 (by sl_kernel_rfl) fun y => carried_row _ 2 y rfl (read_unread_whole _ _ _)
    · exact stored 1 k r l x (fun R l => old.2.1 (ix2 R l)) h0 h1 (by sl_kernel_rfl) fun y => carried_row _ 1 y rfl (read_unread_whole _ _ _)
    · exact stored 0 k r l x (fun R l => old.2.1 (ix2 R l)) (h0.trans (Nat.zero_add _).symm) h1 (by sl_kernel_rfl) fun y => carried_row _ 0 y rfl (read_unread_whole _ _ _)

theorem accB_next :
    (outsAt0 m c t.val t.isLt).2.2.1 (ix2 (row k r) l)
      = (outsAt0 m c (t.val - 1) (by have := t.isLt; omega)).2.2.1 (ix2 (row k r) l) + (blk m c t).updB k (ix2 r l) := by
  by_cases h1 : t.val % 4 = 3
  on_goal 1 => rw [outsAt0_C m c t h0 h1]
  on_goal 2 => rw [outsAt0_B m c t h0 h1]
  all_goals
    generalize outsAt0 m c (t.val - 1) _ = old
    frame_out
    canon_tiles x h
    · exact stored 3 k r l x (fun R l => old.2.2.1 (ix2 R l)) h0 h1 (by sl_kernel_rfl) fun y => carried_row _ 3 y rfl (read_unread_whole _ _ _)
    · exact stored 2 k r l x (fun R l => old.2.2.1 (ix2 R l)) h0 h1 (by sl_kernel_rfl) fun y => carried_row _ 2 y rfl (read_unread_whole _ _ _)
    · exact stored 1 k r l x (fun R l => old.2.2.1 (ix2 R l)) h0 h1 (by sl_kernel_rfl) fun y => carried_row _ 1 y rfl (read_unread_whole _ _ _)
    · exact stored 0 k r l x (fun R l => old.2.2.1 (ix2 R l)) (h0.trans (Nat.zero_add _).symm) h1 (by sl_kernel_rfl) fun y => carried_row _ 0 y rfl (read_unread_whole _ _ _)

theorem accS_next :
    (outsAt0 m c t.val t.isLt).2.2.2 = (blk m c t).accS (outsAt0 m c (t.val - 1) (by have := t.isLt; omega)).2.2.2 := by
  by_cases h1 : t.val % 4 = 3
  on_goal 1 => rw [outsAt0_C m c t h0 h1]
  on_goal 2 => rw [outsAt0_B m c t h0 h1]
  all_goals
    generalize outsAt0 m c (t.val - 1) _ = old
    frame_out
    exact sums_stored (by sl_kernel_rfl) (by sl_kernel_rfl) (by sl_kernel_rfl) (by sl_kernel_rfl) (read_unread_whole _ _ _)
end Next

/-! The first point adds it to zero. -/
section First
variable (c : Dev nD) (t : Fin cfg0.N) (h0 : t.val % 4 = 0) (h1 : ¬t.val % 4 = 3) (k : Fin 4) (r : Fin 512) (l : Fin 128)
include h0 h1

theorem accA_first : (outsAt0 m c t.val t.isLt).2.1 (ix2 (row k r) l) = 0 + (blk m c t).updA k (ix2 r l) := by
  rw [outsAt0_A m c t h0 h1]
  frame_out
  match k with
  | 3 => exact row_hit rfl (stored 3 3 r l _ (fun R l => 0) rfl rfl (by sl_kernel_rfl) fun y =>
      skip_at (by sl_kernel_rfl) (skip_at (by sl_kernel_rfl) (skip_at (by sl_kernel_rfl) (fill_at at_zero fun i => zero14 i))))
  | 2 => exact row_skip (j := 3) rfl (by decide) (row_hit rfl (stored 2 2 r l _ (fun R l => 0) rfl rfl (by sl_kernel_rfl) fun y =>
      skip_at (by sl_kernel_rfl) (skip_at (by sl_kernel_rfl) (fill_at at_zero fun i => zero14 i))))
  | 1 => exact row_skip (j := 3) rfl (by decide) (row_skip (j := 2) rfl (by decide) (row_hit rfl (stored 1 1 r l _ (fun R l => 0) rfl rfl (by sl_kernel_rfl) fun y =>
      skip_at (by sl_kernel_rfl) (fill_at at_zero fun i => zero14 i))))
  | 0 => exact row_skip (j := 3) rfl (by decide) (row_skip (j := 2) rfl (by decide) (row_skip (j := 1) rfl (by decide)
      (row_hit rfl (stored 0 0 r l _ (fun R l => 0) rfl rfl (by sl_kernel_rfl) fun y => fill_at at_zero fun i => zero14 i))))

theorem accB_first : (outsAt0 m c t.val t.isLt).2.2.1 (ix2 (row k r) l) = 0 + (blk m c t).updB k (ix2 r l) := by
  rw [outsAt0_A m c t h0 h1]
  frame_out
  match k with
  | 3 => exact row_hit rfl (stored 3 3 r l _ (fun R l => 0) rfl rfl (by sl_kernel_rfl) fun y =>
      skip_at (by sl_kernel_rfl) (skip_at (by sl_kernel_rfl) (skip_at (by sl_kernel_rfl) (fill_at at_zero fun i => zero15 i))))
  | 2 => exact row_skip (j := 3) rfl (by decide) (row_hit rfl (stored 2 2 r l _ (fun R l => 0) rfl rfl (by sl_kernel_rfl) fun y =>
      skip_at (by sl_kernel_rfl) (skip_at (by sl_kernel_rfl) (fill_at at_zero fun i => zero15 i))))
  | 1 => exact row_skip (j := 3) rfl (by decide) (row_skip (j := 2) rfl (by decide) (row_hit rfl (stored 1 1 r l _ (fun R l => 0) rfl rfl (by sl_kernel_rfl) fun y =>
      skip_at (by sl_kernel_rfl) (fill_at at_zero fun i => zero15 i))))
  | 0 => exact row_skip (j := 3) rfl (by decide) (row_skip (j := 2) rfl (by decide) (row_skip (j := 1) rfl (by decide)
      (row_hit rfl (stored 0 0 r l _ (fun R l => 0) rfl rfl (by sl_kernel_rfl) fun y => fill_at at_zero fun i => zero15 i))))

theorem accS_first : (outsAt0 m c t.val t.isLt).2.2.2 = (blk m c t).accS k0_pay16 := by
  rw [outsAt0_A m c t h0 h1]
  frame_out
  refine sums_stored (by sl_kernel_rfl) (by sl_kernel_rfl) (by sl_kernel_rfl) (by sl_kernel_rfl) ?_
  rfl
end First

/-- What the last point writes, from the accumulators. -/
def finish (a b : FVec Ideal S2048x128 .f32) (s : FVec Ideal S1x128 .f32) : FVec Ideal S1x1x128 .f32 :=
  k0_pay1 (iota .tc S1x128 32 [1] iota_S1x128_d1_w32) (k0_pay9 (k0_pay4 (iota .tc S1x128 32 [1] iota_S1x128_d1_w32) s) (k0_pay5 (iota .tc S1x128 32 [1] iota_S1x128_d1_w32) s))
    (k0_pay10 (iota .tc S1x128 32 [1] iota_S1x128_d1_w32) (k0_pay2 (iota .tc S1x128 32 [1] iota_S1x128_d1_w32) s) a b (iota .tc S2048x128 32 [1] iota_S2048x128_d1_w32) k0_pay6 (k0_pay7 a b) k0_pay8)
    (k0_pay11 (iota .tc S1x128 32 [1] iota_S1x128_d1_w32)) (k0_pay12 (k0_pay3 (iota .tc S1x128 32 [1] iota_S1x128_d1_w32) s)) k0_pay13

theorem finish_congr {a b a' b' : FVec Ideal S2048x128 .f32} {s s' : FVec Ideal S1x128 .f32} (ha : a = a') (hb : b = b') (hs : s = s') :
    finish a b s = finish a' b' s' := by rw [ha, hb, hs]

theorem out_last (c : Dev nD) (t : Fin cfg0.N) (h0 : ¬t.val % 4 = 0) (h1 : t.val % 4 = 3) :
    (outsAt0 m c t.val t.isLt).1 = finish (outsAt0 m c t.val t.isLt).2.1 (outsAt0 m c t.val t.isLt).2.2.1 (outsAt0 m c t.val t.isLt).2.2.2 := by
  rw [outsAt0_C m c t h0 h1]
  generalize outsAt0 m c (t.val - 1) _ = old
  frame_out
  exact finish_congr read_all read_all (by sl_kernel_rfl)
end Loss
-- ==== Proof.Finish.lean ====
module

public import proofs.«01_k».proof.Proof.Point

@[expose] public section
set_option maxRecDepth 16384

/-! The last point: what it writes is three quotients of the accumulated sums. -/

noncomputable section
open Idealize.ShloMosaic Idealize.ShloMosaic.TcCoe Idealize.SL.Sem
open Cert.KernelIdeal Cert.KernelIdeal.Gen

namespace Loss

/-- The lane number of a row of sums. -/
abbrev lane : IVec S1x128 32 := iota .tc S1x128 32 [1] iota_S1x128_d1_w32

theorem lane_below : ∀ l : Fin 128, IntOp.cmpi .slt (BitVec.ofNat 32 l.val) 3#32 = BitVec.ofBool (decide (l.val < 3)) := by decide +kernel
theorem lane_between : ∀ l : Fin 128, IntOp.andi (IntOp.cmpi .sge (BitVec.ofNat 32 l.val) 3#32) (IntOp.cmpi .slt (BitVec.ofNat 32 l.val) 6#32)
    = BitVec.ofBool (decide (3 ≤ l.val ∧ l.val < 6)) := by decide +kernel

theorem select_ite {α : Type} (p : Prop) [Decidable p] (a b : α) : Scalar.select (BitVec.ofBool (decide p)) a b = if p then a else b := by
  by_cases h : p <;> simp [h, Scalar.select]

theorem sum_below (f : Fin 128 → ℝ) : (∑ l, if l.val < 3 then f l else 0) = f 0 + f 1 + f 2 := by
  rw [← Finset.sum_filter, show (Finset.univ.filter fun l : Fin 128 => l.val < 3) = {0, 1, 2} by decide +kernel]
  simp [Finset.sum_insert, add_assoc]
theorem sum_between (f : Fin 128 → ℝ) : (∑ l, if 3 ≤ l.val ∧ l.val < 6 then f l else 0) = f 3 + f 4 + f 5 := by
  rw [← Finset.sum_filter, show (Finset.univ.filter fun l : Fin 128 => 3 ≤ l.val ∧ l.val < 6) = {3, 4, 5} by decide +kernel]
  simp [Finset.sum_insert, add_assoc]
theorem sum_single (n : ℕ) (h : n < 128) (f : Fin 128 → ℝ) : (∑ l, if l.val = n then f l else 0) = f ⟨n, h⟩ := by
  rw [Finset.sum_eq_single ⟨n, h⟩] <;> simp +contextual [Fin.ext_iff]

theorem four_val : Ideal.ofBits .f32 0x40800000#32 = ((4 : ℝ) : EReal) := by
  simp [Ideal.ofBits, Ideal.ieee, -EReal.coe_mul]; norm_num
theorem two_val : Ideal.ofBits .f32 0x40000000#32 = ((2 : ℝ) : EReal) := by
  simp [Ideal.ofBits, Ideal.ieee, -EReal.coe_mul]; norm_num
theorem n98304_val : Ideal.ofBits .f32 0x47C00000#32 = ((98304 : ℝ) : EReal) := by
  simp [Ideal.ofBits, Ideal.ieee, -EReal.coe_mul]; norm_num
theorem n24576_val : Ideal.ofBits .f32 0x46C00000#32 = ((24576 : ℝ) : EReal) := by
  simp [Ideal.ofBits, Ideal.ieee, -EReal.coe_mul]; norm_num

section Sums
variable {s : FVec Ideal S1x128 .f32} {σ : Fin 128 → ℝ} (hs : ∀ l, s (ix2 0 l) = (σ l : EReal))
include hs

theorem pay2_eq : k0_pay2 (F := Ideal) lane s = (σ 0 : EReal) := by
  pointwise [k0_pay2]
  simp only [hs, lane_select, ← EReal.coe_zero, coe_ite, coe_sum, Finset.univ_unique, Finset.sum_singleton]
  exact congrArg _ (sum_single 0 (by decide) σ)
theorem pay3_eq : k0_pay3 (F := Ideal) lane s = (σ 1 : EReal) := by
  pointwise [k0_pay3]
  simp only [hs, lane_select, ← EReal.coe_zero, coe_ite, coe_sum, Finset.univ_unique, Finset.sum_singleton]
  exact congrArg _ (sum_single 1 (by decide) σ)
theorem pay4_eq : k0_pay4 (F := Ideal) lane s = (σ 2 : EReal) := by
  pointwise [k0_pay4]
  simp only [hs, lane_select, ← EReal.coe_zero, coe_ite, coe_sum, Finset.univ_unique, Finset.sum_singleton]
  exact congrArg _ (sum_single 2 (by decide) σ)
theorem pay5_eq : k0_pay5 (F := Ideal) lane s = (σ 3 : EReal) := by
  pointwise [k0_pay5]
  simp only [hs, lane_select, ← EReal.coe_zero, coe_ite, coe_sum, Finset.univ_unique, Finset.sum_singleton]
  exact congrArg _ (sum_single 3 (by decide) σ)
end Sums

section Dynamic
variable {a b : FVec Ideal S2048x128 .f32} {α β : Fin 2048 → Fin 128 → ℝ} (ha : ∀ r l, a (ix2 r l) = (α r l : EReal)) (hb : ∀ r l, b (ix2 r l) = (β r l : EReal))
include ha hb

theorem pay10_at (x : ℝ) (l : Fin 128) :
    k0_pay10 (F := Ideal) lane (x : EReal) a b (iota .tc S2048x128 32 [1] iota_S2048x128_d1_w32) k0_pay6 (k0_pay7 a b) k0_pay8 (ix2 0 l)
      = if l.val = 0 then (((4 * x - 2 * (∑ r, (α r 0 * β r 0 + α r 1 * β r 1 + α r 2 * β r 2)) + ∑ r, β r 9 * (α r 3 + α r 4 + α r 5)) / 98304 : ℝ) : EReal) else 0 := by
  pointwise [k0_pay10, k0_pay6, k0_pay7, k0_pay8]
  simp only [ha, hb, lane_below, lane_between, select_ite, lane_select, ← EReal.coe_mul, ← EReal.coe_zero, coe_ite, coe_sum, Finset.univ_unique, Finset.sum_singleton]
  rw [show (9#32).toNat = 9 from rfl, show (0#32).toNat = 0 from rfl]
  simp only [sum_below, sum_between, fun i => sum_single 9 (by decide) (β i), four_val, two_val, n98304_val, Ideal.div_coe (show (98304 : ℝ) ≠ 0 by norm_num),
    ← EReal.coe_mul, ← EReal.coe_sub, ← EReal.coe_add, coe_ite, ← div_eq_mul_one_div]
  rfl

variable {s : FVec Ideal S1x128 .f32} {σ : Fin 128 → ℝ} (hs : ∀ l, s (ix2 0 l) = (σ l : EReal))
include hs

theorem finish_at (l : Fin 128) :
    finish a b s (ix3 0 0 l)
      = ((if l.val = 0 then (4 * σ 0 - 2 * (∑ r, (α r 0 * β r 0 + α r 1 * β r 1 + α r 2 * β r 2)) + ∑ r, β r 9 * (α r 3 + α r 4 + α r 5)) / 98304 else 0)
        + (if l.val = 1 then σ 1 / 24576 else 0) + (if l.val = 2 then σ 2 / max (σ 3) 1 else 0) : ℝ) := by
  have h : max (σ 3) 1 ≠ 0 := ne_of_gt (lt_of_lt_of_le one_pos (le_max_right _ _))
  rw [finish, pay2_eq hs, pay3_eq hs, pay4_eq hs, pay5_eq hs]
  pointwise [k0_pay1, k0_pay9, k0_pay11, k0_pay12, k0_pay13]
  rw [pay10_at ha hb]
  rw [lane_select, lane_select, show (1#32).toNat = 1 from rfl, show (2#32).toNat = 2 from rfl, n24576_val, Ideal.div_coe (show (24576 : ℝ) ≠ 0 by norm_num),
    show (1 : EReal) = ((1 : ℝ) : EReal) from rfl, coe_max, Ideal.div_coe h]
  simp only [← EReal.coe_mul, ← div_eq_mul_one_div, ← EReal.coe_zero, coe_ite, ← EReal.coe_add]
end Dynamic
end Loss
-- ==== Proof.World.lean ====
module

public import proofs.«01_k».proof.Proof.Body

@[expose] public section
set_option maxRecDepth 16384

/-! The seven arguments as arrays of real numbers, and the batches they make. -/

noncomputable section
open Idealize.ShloMosaic Idealize.ShloMosaic.TcCoe Idealize.SL.Sem

namespace Loss

/-- The arguments: three frames of points with six features, the two estimates, and the two layers. -/
structure World where
  X : Fin 4 → Fin 3 → Fin 2048 → Fin 6 → ℝ
  Y0 : Fin 4 → Fin 2048 → Fin 3 → ℝ
  Y1 : Fin 4 → Fin 2048 → Fin 3 → ℝ
  W1 : Fin 12 → Fin 64 → ℝ
  B1 : Fin 64 → ℝ
  W2 : Fin 64 → Fin 3 → ℝ
  B2 : Fin 3 → ℝ

namespace World
variable (W : World)

/-- The position of a point of a frame. -/
def pos (b : Fin 4) (f : Fin 3) (r : Fin 2048) (c : Fin 3) : ℝ := W.X b f r ⟨c.val, by omega⟩

/-- What the body reads of batch `b`. -/
def batch (b : Fin 4) : Batch where
  X1 := W.X b 1
  X2 := W.X b 2
  XT c j := W.pos b 2 j c
  KC c n := if h : n.val < 2048 then W.pos b 1 ⟨n.val, h⟩ c else W.pos b 2 ⟨n.val - 2048, by omega⟩ c
  Y0 := W.Y0 b
  Y1 := W.Y1 b
  Wa c h := W.W1 ⟨c.val, by omega⟩ h
  Wb c h := W.W1 ⟨6 + c.val, by omega⟩ h
  B1 := W.B1
  W2 := W.W2
  B2 := W.B2

/-- Seven arrays that hold these numbers, the first frame of points left open. -/
structure Holds (a0 : FVec Ideal ⟨4, ![4, 3, 2048, 6]⟩ .f32) (a1 a2 : FVec Ideal ⟨4, ![4, 1, 2048, 3]⟩ .f32) (a3 : FVec Ideal ⟨2, ![12, 64]⟩ .f32)
    (a4 : FVec Ideal ⟨1, ![64]⟩ .f32) (a5 : FVec Ideal ⟨2, ![64, 3]⟩ .f32) (a6 : FVec Ideal ⟨1, ![3]⟩ .f32) : Prop where
  h0 : ∀ b f r c, f ≠ 0 → a0 (ix4 b f r c) = (W.X b f r c : EReal)
  h1 : ∀ b r c, a1 (ix4 b 0 r c) = (W.Y0 b r c : EReal)
  h2 : ∀ b r c, a2 (ix4 b 0 r c) = (W.Y1 b r c : EReal)
  h3 : ∀ i j, a3 (ix2 i j) = (W.W1 i j : EReal)
  h4 : ∀ i, a4 (ix1 i) = (W.B1 i : EReal)
  h5 : ∀ i j, a5 (ix2 i j) = (W.W2 i j : EReal)
  h6 : ∀ i, a6 (ix1 i) = (W.B2 i : EReal)

theorem sq_lo (b : Fin 4) (r j : Fin 2048) : (W.batch b).sq r (lo j)
    = (∑ c, W.Y0 b r c * W.Y0 b r c) + (∑ c, W.pos b 1 j c * W.pos b 1 j c) - 2 * ∑ c, W.Y0 b r c * W.pos b 1 j c := by
  simp only [Batch.sq, batch, lo, j.isLt, dite_true, Fin.sum_univ_three]
  ring

theorem sq_nonneg (b : Fin 4) (r j : Fin 2048) : 0 ≤ (W.batch b).sq r (lo j) := by
  have e : (W.batch b).sq r (lo j) = ∑ c, (W.Y0 b r c - W.pos b 1 j c) ^ 2 := by
    rw [sq_lo]
    simp only [Fin.sum_univ_three]
    ring
  rw [e]
  exact Finset.sum_nonneg fun c _ => pow_two_nonneg _

theorem sq_hi (b : Fin 4) (r j : Fin 2048) : (W.batch b).sq r (hi j)
    = (∑ c, W.Y0 b r c * W.Y0 b r c) + (∑ c, W.pos b 2 j c * W.pos b 2 j c) - 2 * ∑ c, W.Y0 b r c * W.pos b 2 j c := by
  have e : (hi j).val = 2048 + j.val := rfl
  have e' : (⟨(hi j).val - 2048, by omega⟩ : Fin 2048) = j := Fin.ext (by simp [e])
  simp only [Batch.sq, batch, e', dif_neg (show ¬ (hi j).val < 2048 by omega), Fin.sum_univ_three]
  ring

theorem cham_sub (b : Fin 4) (r j : Fin 2048) : (W.batch b).cham r j
    = max ((∑ c, (W.batch b).hat r c * (W.batch b).hat r c) + (∑ c, W.pos b 2 j c * W.pos b 2 j c) - 2 * ∑ c, (W.batch b).hat r c * W.pos b 2 j c) 0 := by
  rw [Batch.cham]
  congr 1
  simp only [show ∀ c, (W.batch b).XT c j = W.pos b 2 j c from fun _ => rfl, Fin.sum_univ_three]
  ring

end World
end Loss
-- ==== Proof.Ref.lean ====
module

public import proofs.«01_k».proof.Proof.World
public import proofs.«01_k».proof.Proof.Finish
public import Idealize.ShloMosaic.Lib.Tactic.CleanTypes
public import proofs.«01_k».proof.Proof.Gen.ReferenceIdeal.Run

@[expose] public section
set_option maxRecDepth 16384

/-! The reference's results as numbers. -/

noncomputable section
open Idealize.ShloMosaic Idealize.ShloMosaic.TcCoe Idealize.SL.Sem
open Cert.ReferenceIdeal Cert.ReferenceIdeal.Gen Cert.ReferenceIdeal.Value

namespace Loss

/-- The least squared distance the reference takes the root of. -/
def floor12 : ℝ := 9223372 / 2 ^ 63

theorem floor12_val : Ideal.ofBits .f32 0x2B8CBCCC#32 = (floor12 : EReal) := by
  simp [Ideal.ofBits, Ideal.ieee, floor12, -EReal.coe_mul]; norm_num

theorem n20_val : Ideal.ofBits .f32 0x41A00000#32 = ((20 : ℝ) : EReal) := by
  simp [Ideal.ofBits, Ideal.ieee, -EReal.coe_mul]; norm_num

theorem n5_val : Ideal.ofBits .f32 0x40A00000#32 = ((5 : ℝ) : EReal) := by
  simp [Ideal.ofBits, Ideal.ieee, -EReal.coe_mul]; norm_num

/-- A comparison as the number one or zero. -/
theorem indicator_u (p : Prop) [Decidable p] : FloatOps.uitofp (F := Ideal) .f32 (BitVec.ofBool (decide p)) = ((if p then 1 else 0 : ℝ) : EReal) := by
  by_cases h : p <;> simp [h, FloatOps.uitofp]

/-- The distance of two points by the square of their distance. -/
def World.dist (W : World) (b : Fin 4) (r j : Fin 2048) : ℝ := √(max (max ((W.batch b).sq r (lo j)) 0) floor12)

/-- The least entry of a row. -/
theorem min_rows (X : FVec Ideal S4x2048x2048 .f32) (f : Fin 4 → Fin 2048 → Fin 2048 → ℝ) (hX : ∀ b r j, X (ix3 b r j) = (f b r j : EReal)) (b : Fin 4) (r : Fin 2048) :
    Host.reduce FloatOps.minimumf X (constant S_ .f32 0x7F800000#32) reducesTo_S4x2048x2048_S4x2048_d2 h_S_ (ix2 b r) = ((⨅ j, f b r j : ℝ) : EReal) := by
  pointwise
  simp only [hX, top_f32, fold_min]

section Ref
variable {W : World} {V0 : Valuation τ sig (Elt Ideal)}
  (H : W.Holds (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)))
include H

theorem ref_v0 (b : Fin 4) (f : Fin 2) (r : Fin 2048) (c : Fin 6) : res_main_v0 V0 (ix4 b f r c) = (W.X b ⟨1 + f.val, by omega⟩ r c : EReal) := by
  clean_types
  pointwise [res_main_v0]
  exact H.h0 _ _ _ _ (fun e => by have := congrArg Fin.val e; simp only [Fin.val_zero] at this; omega)

theorem ref_v16 (b : Fin 4) (r : Fin 2048) (c : Fin 3) : res_main_v16 V0 (ix4 b 0 r c) = ((W.batch b).mv r c : EReal) := by
  unfold res_main_v16
  clean_types
  pointwise
  simp only [ref_v0 H, H.h3, H.h4, H.h5, H.h6, coe_dot, ← EReal.coe_zero, coe_max, ← EReal.coe_add]
  rfl

theorem ref_v20 (b : Fin 4) (r : Fin 2048) (c : Fin 3) : res_main_v20 V0 (ix3 b r c) = ((W.batch b).hat r c : EReal) := by
  unfold res_main_v20 res_main_v17
  clean_types
  pointwise
  simp only [ref_v0 H, ref_v16 H, ← EReal.coe_add]
  rfl

theorem ref_v21 (b : Fin 4) (r : Fin 2048) (c : Fin 3) : res_main_v21 V0 (ix3 b r c) = (W.pos b 2 r c : EReal) := by
  unfold res_main_v21 res_main_v18
  clean_types
  pointwise
  simp only [ref_v0 H]
  rfl

theorem ref_v36 (b : Fin 4) (r j : Fin 2048) : res_main_v36 V0 (ix3 b r j) = ((W.batch b).cham r j : EReal) := by
  unfold res_main_v36
  clean_types
  pointwise
  simp only [ref_v20 H, ref_v21 H, two_val, ← EReal.coe_mul, coe_sum, ← EReal.coe_add, ← EReal.coe_sub, ← EReal.coe_zero, coe_max, W.cham_sub]

theorem ref_v49 (b : Fin 4) : res_main_v49 V0 (ix4 b 0 0 0) = ((W.batch b).mc : EReal) := by
  unfold res_main_v49
  clean_types
  pointwise
  simp only [ref_v36 H, n2048_val, tenth_val, top_f32, fold_min, coe_sum, Ideal.div_coe (show (2048 : ℝ) ≠ 0 by norm_num), ← EReal.coe_mul, ← EReal.coe_add,
    ← div_eq_mul_one_div, EReal.coe_lt_coe_iff, Batch.mc, Batch.chamLoss]
  exact indicator_u _

theorem ref_v50 (b : Fin 4) (r : Fin 2048) (c : Fin 3) : res_main_v50 V0 (ix3 b r c) = (W.Y0 b r c : EReal) := by
  unfold res_main_v50
  clean_types
  pointwise
  exact H.h1 _ _ _

theorem ref_v73 (b : Fin 4) (r : Fin 2048) (c : Fin 3) : res_main_v73 V0 (ix3 b r c) = (W.Y0 b r c : EReal) := by
  unfold res_main_v73
  clean_types
  pointwise
  exact H.h1 _ _ _

theorem ref_v116 (b : Fin 4) (r : Fin 2048) (c : Fin 3) : res_main_v116 V0 (ix3 b r c) = (W.Y0 b r c : EReal) := by
  unfold res_main_v116
  clean_types
  pointwise
  exact H.h1 _ _ _

theorem ref_v51 (b : Fin 4) (r : Fin 2048) (c : Fin 3) : res_main_v51 V0 (ix3 b r c) = (W.pos b 1 r c : EReal) := by
  unfold res_main_v51 res_main_v17
  clean_types
  pointwise
  exact ref_v0 H _ _ _ _

theorem ref_v115 (b : Fin 4) (r : Fin 2048) (c : Fin 3) : res_main_v115 V0 (ix3 b r c) = (W.pos b 1 r c : EReal) := by
  unfold res_main_v115 res_main_v17
  clean_types
  pointwise
  exact ref_v0 H _ _ _ _

theorem ref_v69 (b : Fin 4) (r j : Fin 2048) : res_main_v69 V0 (ix3 b r j) = (W.dist b r j : EReal) := by
  unfold res_main_v69
  clean_types
  pointwise
  simp only [ref_v50 H, ref_v51 H, two_val, floor12_val, ← EReal.coe_mul, coe_sum, ← EReal.coe_add, ← EReal.coe_sub, ← EReal.coe_zero, coe_max]
  rw [Ideal.sqrt_coe, if_neg (not_lt.2 (le_max_of_le_right (by norm_num [floor12]))), World.dist, W.sq_lo]

theorem ref_v106 (b : Fin 4) (r : Fin 2048) : res_main_v106 V0 (ix4 b 0 r 0) = ((if (⨅ j, W.dist b r j) < 1 / 20 then 1 else 0 : ℝ) : EReal) := by
  unfold res_main_v106
  clean_types
  pointwise
  simp only [ref_v69 H, top_f32, fold_min, n20_val, Ideal.div_coe (show (20 : ℝ) ≠ 0 by norm_num), one_mul, EReal.coe_lt_coe_iff]
  exact indicator_u _

theorem ref_v131 (b : Fin 4) (j r : Fin 2048) : res_main_v131 V0 (ix3 b j r) = ((max ((W.batch b).sq r (lo j)) 0 : ℝ) : EReal) := by
  unfold res_main_v131
  clean_types
  pointwise
  simp only [ref_v115 H, ref_v116 H, two_val, ← EReal.coe_mul, coe_sum, ← EReal.coe_add, ← EReal.coe_sub, ← EReal.coe_zero, coe_max, W.sq_lo]
  congr 2
  simp only [Fin.sum_univ_three]
  ring

theorem ref_v132 (b : Fin 4) (j : Fin 2048) : res_main_v132 V0 (ix2 b j) = ((⨅ r, max ((W.batch b).sq r (lo j)) 0 : ℝ) : EReal) := by
  unfold res_main_v132
  exact min_rows (res_main_v131 V0) _ (ref_v131 H) b j

end Ref
end Loss
-- ==== Proof.Sums.lean ====
module

public import proofs.«01_k».proof.Proof.Ref
public import proofs.«01_k».proof.Proof.Chunk

@[expose] public section
set_option maxRecDepth 16384

/-! The three losses as numbers: the sums the kernel keeps against the sums of the definition. -/

noncomputable section
open Idealize.ShloMosaic

namespace Loss

/-- The sum over every pair of batches, split into the three sums the kernel keeps. -/
theorem pair_sum (w : Fin 4 → Fin 2048 → ℝ) (hw : ∀ b r, w b r * w b r = w b r) (d m : Fin 4 → Fin 2048 → Fin 3 → ℝ) :
    ∑ b, ∑ b', ∑ r, ∑ c, (d b r c * w b r - m b' r c * w b r) * (d b r c * w b r - m b' r c * w b r)
      = 4 * (∑ b, ∑ r, w b r * ∑ c, d b r c * d b r c)
        - 2 * (∑ r, ((∑ b, w b r * d b r 0) * (∑ b, m b r 0) + (∑ b, w b r * d b r 1) * (∑ b, m b r 1) + (∑ b, w b r * d b r 2) * (∑ b, m b r 2)))
        + ∑ r, (∑ b, w b r) * ((∑ b, m b r 0 * m b r 0) + (∑ b, m b r 1 * m b r 1) + ∑ b, m b r 2 * m b r 2) := by
  have e : ∀ b b' r c, (d b r c * w b r - m b' r c * w b r) * (d b r c * w b r - m b' r c * w b r)
      = w b r * (d b r c * d b r c) - 2 * (w b r * d b r c) * m b' r c + w b r * (m b' r c * m b' r c) := fun b b' r c => by
    linear_combination (d b r c - m b' r c) ^ 2 * hw b r
  simp only [e, Fin.sum_univ_four, ← Finset.sum_add_distrib, Finset.mul_sum, ← Finset.sum_sub_distrib]
  refine Finset.sum_congr rfl fun r _ => ?_
  simp only [Fin.sum_univ_three]
  ring

namespace World
variable (W : World)

/-- Whether a query point is near some key, by its distance and by its square. -/
theorem near_iff (b : Fin 4) (r : Fin 2048) : (⨅ j, W.dist b r j) < 1 / 20 ↔ (W.batch b).near r < 1 / 400 := by
  rw [Batch.near, iInf_lt_iff', iInf_lt_iff']
  refine exists_congr fun j => ?_
  rw [dist, Real.sqrt_lt' (by norm_num), max_lt_iff, max_lt_iff]
  norm_num [floor12]

theorem far_iff (b : Fin 4) (r : Fin 2048) :
    1 / 5 < (⨅ n, √(max (max ((W.batch b).sq r n) 0) floor12)) ↔ 1 / 25 < min ((W.batch b).near r) ((W.batch b).far r) := by
  have e : ∀ n, 1 / 5 < √(max (max ((W.batch b).sq r n) 0) floor12) ↔ 1 / 25 < (W.batch b).sq r n := fun n => by
    rw [Real.lt_sqrt (by norm_num), lt_max_iff, lt_max_iff]
    norm_num [floor12]
  rw [Batch.near, Batch.far, lt_min_iff, lt_iInf_iff', lt_iInf_iff', lt_iInf_iff']
  simp only [e]
  constructor
  · exact fun h => ⟨fun j => h _, fun j => h _⟩
  · rintro ⟨h, h'⟩ n
    by_cases hn : n.val < 2048
    · exact h ⟨n.val, hn⟩
    · have := h' ⟨n.val - 2048, by omega⟩
      rwa [show hi ⟨n.val - 2048, by omega⟩ = n from Fin.ext (by simp [hi]; omega)] at this

end World

theorem mark_sq (p q : Prop) [Decidable p] [Decidable q] :
    ((if p then 1 else 0 : ℝ) * if q then 1 else 0) * ((if p then 1 else 0 : ℝ) * if q then 1 else 0) = (if p then 1 else 0 : ℝ) * if q then 1 else 0 := by
  by_cases p <;> by_cases q <;> simp [*]

namespace World
variable (W : World)

/-- The kept sums over the batches: the two wide arrays. -/
def keptA (r : Fin 2048) (l : Fin 128) : ℝ := ∑ b, laneA ((W.batch b).w r) ((W.batch b).dy r) ((W.batch b).nm r) l
def keptB (r : Fin 2048) (l : Fin 128) : ℝ := ∑ b, laneB ((W.batch b).w r) ((W.batch b).nm r) l
/-- The narrow one. -/
def keptS (l : Fin 128) : ℝ := ∑ b, ((if l.val = 0 then (W.batch b).asum else 0) + (if l.val = 1 then (W.batch b).stat else 0)
  + (if l.val = 2 then (W.batch b).dsum else 0) + (if l.val = 3 then (W.batch b).cnt else 0))

/-- The three losses by the kept sums. -/
def dynamic : ℝ := (4 * W.keptS 0 - 2 * (∑ r, (W.keptA r 0 * W.keptB r 0 + W.keptA r 1 * W.keptB r 1 + W.keptA r 2 * W.keptB r 2))
  + ∑ r, W.keptB r 9 * (W.keptA r 3 + W.keptA r 4 + W.keptA r 5)) / 98304
def static : ℝ := W.keptS 1 / 24576
def nearness : ℝ := W.keptS 2 / max (W.keptS 3) 1

theorem keptS_eq : W.keptS 0 = ∑ b, (W.batch b).asum ∧ W.keptS 1 = ∑ b, (W.batch b).stat ∧ W.keptS 2 = ∑ b, (W.batch b).dsum
    ∧ W.keptS 3 = ∑ b, (W.batch b).cnt := by
  refine ⟨?_, ?_, ?_, ?_⟩ <;> exact Finset.sum_congr rfl fun b _ => by simp

theorem w_eq (b : Fin 4) (r : Fin 2048) : (W.batch b).w r = (W.batch b).mc * (if (⨅ j, W.dist b r j) < 1 / 20 then 1 else 0) := by
  simp only [Batch.w, W.near_iff]

/-- Some batch's query point of that number is near a key: only then is the row weighed. -/
def Read (r : Fin 2048) : Prop := ∃ b, (⨅ j, W.dist b r j) < 1 / 20

theorem dynamic_eq (k : Fin 4 → Fin 2048 → Fin 2048) (hn : ∀ b r, W.Read r → ∀ c, (W.batch b).nm r c = (W.batch b).mv (k b r) c) : W.dynamic = (∑ b, ∑ b', ∑ r, ∑ c,
      ((W.batch b).dy r c * (W.batch b).mc * (if (⨅ j, W.dist b r j) < 1 / 20 then 1 else 0)
        - (W.batch b').mv (k b' r) c * (W.batch b).mc * (if (⨅ j, W.dist b r j) < 1 / 20 then 1 else 0))
      * ((W.batch b).dy r c * (W.batch b).mc * (if (⨅ j, W.dist b r j) < 1 / 20 then 1 else 0)
        - (W.batch b').mv (k b' r) c * (W.batch b).mc * (if (⨅ j, W.dist b r j) < 1 / 20 then 1 else 0))) / 98304 := by
  have h := pair_sum (fun b r => (W.batch b).w r) (fun b r => mark_sq _ _) (fun b r c => (W.batch b).dy r c) (fun b r c => (W.batch b).nm r c)
  have e : ∀ b b' r c, (W.batch b').mv (k b' r) c * (W.batch b).w r = (W.batch b').nm r c * (W.batch b).w r := fun b b' r c => by
    by_cases n : (⨅ j, W.dist b r j) < 1 / 20
    · rw [hn b' r ⟨b, n⟩ c]
    · rw [W.w_eq, if_neg n, mul_zero, mul_zero, mul_zero]
  rw [dynamic, W.keptS_eq.1]
  congr 1
  simp only [mul_assoc, ← W.w_eq, e]
  refine Eq.trans ?_ h.symm
  simp only [keptA, keptB, Batch.asum, Batch.dy2]
  simp [laneA, laneB]

theorem static_eq : W.static = (∑ b, ∑ r, ∑ c,
      ((W.batch b).dy r c * if 1 / 5 < ⨅ n, √(max (max ((W.batch b).sq r n) 0) floor12) then 1 else 0)
      * ((W.batch b).dy r c * if 1 / 5 < ⨅ n, √(max (max ((W.batch b).sq r n) 0) floor12) then 1 else 0)) / 24576 := by
  rw [static, W.keptS_eq.2.1]
  congr 1
  refine Finset.sum_congr rfl fun b _ => Finset.sum_congr rfl fun r _ => ?_
  simp only [W.far_iff, Batch.dy2, Finset.mul_sum]
  refine Finset.sum_congr rfl fun c _ => ?_
  split <;> ring

end World
end Loss
-- ==== Proof.Fold.lean ====
module

public import proofs.«01_k».proof.Proof.Point
public import proofs.«01_k».proof.Proof.Finish
public import proofs.«01_k».proof.Proof.World
public import proofs.«01_k».proof.Proof.Sums

@[expose] public section
set_option maxRecDepth 16384

/-! The four points together: what the accumulators hold at the last one, and what it writes. -/

noncomputable section
open Idealize.ShloMosaic Idealize.ShloMosaic.TcCoe Idealize.SL.Sem
open Cert.KernelIdeal Cert.KernelIdeal.Gen

namespace Loss

/-- The batch of a point. -/
def batchOf (t : Fin cfg0.N) : Fin 4 := ⟨t.val, t.isLt⟩

theorem upto {f : (n : ℕ) → n < cfg0.N → EReal} {g : Fin 4 → ℝ} (h0 : f 0 (by decide) = 0 + (g 0 : EReal))
    (hs : ∀ n (hn : n + 1 < cfg0.N), f (n + 1) hn = f n (by omega) + (g ⟨n + 1, hn⟩ : EReal)) : f 3 (by decide) = ((∑ b, g b : ℝ) : EReal) := by
  rw [hs 2, hs 1, hs 0, h0, Fin.sum_univ_four]
  simp only [EReal.coe_add, zero_add]
  rfl

variable (m : (ℓ : Loc nD τ sig) → Buf (Elt Ideal) ℓ) (c : Dev nD) {W : World}
  (L : ∀ t : Fin cfg0.N, (blk m c t).Holds (W.batch (batchOf t))) (A : ∀ b, (W.batch b).Apart)
include L A

theorem last_A (r : Fin 2048) (l : Fin 128) : (outsAt0 m c 3 (by decide)).2.1 (ix2 r l) = (W.keptA r l : EReal) := by
  obtain ⟨j, i, rfl⟩ := row_surj r
  refine upto (f := fun n hn => (outsAt0 m c n hn).2.1 (ix2 (row j i) l)) ?_ fun n hn => ?_
  · refine (accA_first m c ⟨0, by decide⟩ rfl (by decide) j i l).trans (congrArg (0 + ·) ?_)
    exact updA_at (L ⟨0, by decide⟩) (A _) j i l
  · refine (accA_next m c ⟨n + 1, hn⟩ ?_ j i l).trans (congrArg (_ + ·) ?_)
    · have : n + 1 < 4 := hn
      show ¬(n + 1) % 4 = 0
      omega
    · exact updA_at (L ⟨n + 1, hn⟩) (A _) j i l

theorem last_B (r : Fin 2048) (l : Fin 128) : (outsAt0 m c 3 (by decide)).2.2.1 (ix2 r l) = (W.keptB r l : EReal) := by
  obtain ⟨j, i, rfl⟩ := row_surj r
  refine upto (f := fun n hn => (outsAt0 m c n hn).2.2.1 (ix2 (row j i) l)) ?_ fun n hn => ?_
  · refine (accB_first m c ⟨0, by decide⟩ rfl (by decide) j i l).trans (congrArg (0 + ·) ?_)
    exact updB_at (L ⟨0, by decide⟩) (A _) j i l
  · refine (accB_next m c ⟨n + 1, hn⟩ ?_ j i l).trans (congrArg (_ + ·) ?_)
    · have : n + 1 < 4 := hn
      show ¬(n + 1) % 4 = 0
      omega
    · exact updB_at (L ⟨n + 1, hn⟩) (A _) j i l

theorem last_S (l : Fin 128) : (outsAt0 m c 3 (by decide)).2.2.2 (ix2 0 l) = (W.keptS l : EReal) := by
  refine upto (f := fun n hn => (outsAt0 m c n hn).2.2.2 (ix2 0 l)) ?_ fun n hn => ?_
  · rw [accS_first m c ⟨0, by decide⟩ rfl (by decide), accS_at (L ⟨0, by decide⟩) (A _)]
    refine congrArg (· + _) ?_
    pointwise [k0_pay16]
  · rw [accS_next m c ⟨n + 1, hn⟩ (by have : n + 1 < 4 := hn; show ¬(n + 1) % 4 = 0; omega), accS_at (L ⟨n + 1, hn⟩) (A _)]
    rfl

/-- What the last point writes, at the three lanes that are read. -/
theorem last_out : (outsAt0 m c 3 (by decide)).1 (ix3 0 0 0) = (W.dynamic : EReal) ∧ (outsAt0 m c 3 (by decide)).1 (ix3 0 0 1) = (W.static : EReal)
    ∧ (outsAt0 m c 3 (by decide)).1 (ix3 0 0 2) = (W.nearness : EReal) := by
  rw [out_last m c ⟨3, by decide⟩ (by decide) rfl]
  have e := finish_at (last_A m c L A) (last_B m c L A) (last_S m c L A)
  refine ⟨(e 0).trans ?_, (e 1).trans ?_, (e 2).trans ?_⟩
  · simp [World.dynamic]
  · simp [World.static]
  · simp [World.nearness]

end Loss
-- ==== Proof.Tail.lean ====
module

public import proofs.«01_k».proof.Proof.Fold
public import Idealize.ShloMosaic.Lib.Claim
public import Idealize.ShloMosaic.Lib.Tactic.CleanTypes

@[expose] public section
set_option maxRecDepth 16384

/-! The kernel's run: its three results are three lanes of what the last point writes. -/

noncomputable section
open Idealize.ShloMosaic Idealize.ShloMosaic.TcCoe Idealize.SL.Sem
open Cert.KernelIdeal Cert.KernelIdeal.Gen

namespace Loss
variable (m : (ℓ : Loc nD τ sig) → Buf (Elt Ideal) ℓ) (c : Dev nD)

/-- The output array ends as the last point's block. -/
theorem final : (dats m 0 c).arrAt 11 (cfgs 0).N = (outsAt0 m c 3 (by decide)).1 := by
  refine (dats m 0 c).arrAt_eq_of_after_last 11 t0_3 (by decide +kernel) _ fun j => ?_
  blk_simp
  rw [after0_11]
  rfl

/-- The valuation the lines after the region start from holds it. -/
theorem written : (Pipeline.withArrays (cfgs 0).spec c (V0 m c) (fun w => (dats m 0 c).arrAt w (cfgs 0).N) (Proc.devRef .tc main_v15) : FVec Ideal S1x1x128 .f32)
    = (outsAt0 m c 3 (by decide)).1 :=
  (Pipeline.withArrays_arr (cfgs 0).spec winFacts0.arr_inj c (V0 m c) (fun w => (dats m 0 c).arrAt w (cfgs 0).N) 11).trans (final m c)

theorem ends (i : S_.Idx) : (Pipeline.afterTail₀ cfgs (dats m) 0 (V0 m) [hostOps1] c main_v18 : FVec Ideal S_ .f32) i = (outsAt0 m c 3 (by decide)).1 (ix3 0 0 0)
    ∧ (Pipeline.afterTail₀ cfgs (dats m) 0 (V0 m) [hostOps1] c main_v20 : FVec Ideal S_ .f32) i = (outsAt0 m c 3 (by decide)).1 (ix3 0 0 1)
    ∧ (Pipeline.afterTail₀ cfgs (dats m) 0 (V0 m) [hostOps1] c main_v22 : FVec Ideal S_ .f32) i = (outsAt0 m c 3 (by decide)).1 (ix3 0 0 2) := by
  rw [← written]
  unfold Pipeline.afterTail₀
  simp only [hostOps1, List.flatten_cons, List.flatten_nil, List.append_nil]
  after_results
  clean_types
  refine ⟨?_, ?_, ?_⟩ <;> pointwise

/-- The run, from a memory whose arguments hold real numbers, no squared distance below the tie break. -/
theorem kernel_run (g : Dev nD → PrngReg) (W : Dev nD → World)
    (L : ∀ c (t : Fin cfg0.N), (blk m c t).Holds ((W c).batch (batchOf t))) (A : ∀ c b, ((W c).batch b).Apart) :
    θ_run defs (onTc (τ := τ) (main (F := Ideal))) ⟨m, fun _ => 0, g⟩ fun r => ∀ c : Dev nD,
      r.2.mem ((c.tc : Thread nD τ).loc main_v18) = (fun _ => ((W c).dynamic : EReal))
      ∧ r.2.mem ((c.tc : Thread nD τ).loc main_v20) = (fun _ => ((W c).static : EReal))
      ∧ r.2.mem ((c.tc : Thread nD τ).loc main_v22) = (fun _ => ((W c).nearness : EReal)) := by
  refine (θ_run defs _ _).mono (fun r h c => ?_) (run_main m g)
  have rest := (h c).2
  obtain ⟨l0, l1, l2⟩ := last_out m c (L c) (A c)
  refine ⟨(rest main_v18 (by decide)).trans (funext fun i => ?_), (rest main_v20 (by decide)).trans (funext fun i => ?_), (rest main_v22 (by decide)).trans (funext fun i => ?_)⟩
  · exact (ends m c i).1.trans l0
  · exact (ends m c i).2.1.trans l1
  · exact (ends m c i).2.2.trans l2

end Loss
-- ==== Proof.Links.lean ====
module

public import proofs.«01_k».proof.Proof.Point
public import proofs.«01_k».proof.Proof.World
public import Idealize.ShloMosaic.Lib.Claim
public import Idealize.ShloMosaic.Lib.Tactic.CleanTypes

@[expose] public section
set_option maxRecDepth 16384
/-! What a point loads, entry by entry of the arguments. -/

noncomputable section
open Idealize.ShloMosaic Idealize.ShloMosaic.TcCoe Idealize.SL.Sem
open Cert.KernelIdeal Cert.KernelIdeal.Gen

namespace Loss
variable (m : (ℓ : Loc nD τ sig) → Buf (Elt Ideal) ℓ) (c : Dev nD)

/-- What the host lines before the kernel leave, by entries of the first argument. -/
theorem entry_points (b : Fin 4) : (∀ (r : Fin 2048) (f : Fin 6), (V m c main_v1 : FVec Ideal S4x2048x6 .f32) (ix3 b r f) = (m ((c.tc : Thread nD τ).loc main_arg0) : FVec Ideal S4x3x2048x6 .f32) (ix4 b 1 r f))
    ∧ (∀ (r : Fin 2048) (f : Fin 6), (V m c main_v3 : FVec Ideal S4x2048x6 .f32) (ix3 b r f) = (m ((c.tc : Thread nD τ).loc main_arg0) : FVec Ideal S4x3x2048x6 .f32) (ix4 b 2 r f))
    ∧ (∀ (f : Fin 3) (r : Fin 2048), (V m c main_v7 : FVec Ideal S4x3x2048 .f32) (ix3 b f r) = (m ((c.tc : Thread nD τ).loc main_arg0) : FVec Ideal S4x3x2048x6 .f32) (ix4 b 2 r ⟨f.val, by omega⟩))
    ∧ (∀ (f : Fin 3) (n : Fin 4096), (V m c main_v8 : FVec Ideal S4x3x4096 .f32) (ix3 b f n)
        = if h : n.val < 2048 then (m ((c.tc : Thread nD τ).loc main_arg0) : FVec Ideal S4x3x2048x6 .f32) (ix4 b 1 ⟨n.val, h⟩ ⟨f.val, by omega⟩)
          else (m ((c.tc : Thread nD τ).loc main_arg0) : FVec Ideal S4x3x2048x6 .f32) (ix4 b 2 ⟨n.val - 2048, by omega⟩ ⟨f.val, by omega⟩)) := by
  simp only [V, V0, hostOps0, List.flatten_cons, List.flatten_nil, List.append_nil]
  after_results
  clean_types
  refine ⟨fun r f => ?_, fun r f => ?_, fun f r => ?_, fun f n => ?_⟩ <;> pointwise

/-- The same for the other arguments. -/
theorem entry_rest : (∀ (b : Fin 4) (r : Fin 2048) (f : Fin 3), (V m c main_v9 : FVec Ideal S4x2048x3 .f32) (ix3 b r f) = (m ((c.tc : Thread nD τ).loc main_arg1) : FVec Ideal S4x1x2048x3 .f32) (ix4 b 0 r f))
    ∧ (∀ (b : Fin 4) (r : Fin 2048) (f : Fin 3), (V m c main_v10 : FVec Ideal S4x2048x3 .f32) (ix3 b r f) = (m ((c.tc : Thread nD τ).loc main_arg2) : FVec Ideal S4x1x2048x3 .f32) (ix4 b 0 r f))
    ∧ (∀ (i : Fin 6) (j : Fin 64), (V m c main_v11 : FVec Ideal S6x64 .f32) (ix2 i j) = (m ((c.tc : Thread nD τ).loc main_arg3) : FVec Ideal S12x64 .f32) (ix2 ⟨i.val, by omega⟩ j))
    ∧ (∀ (i : Fin 6) (j : Fin 64), (V m c main_v12 : FVec Ideal S6x64 .f32) (ix2 i j) = (m ((c.tc : Thread nD τ).loc main_arg3) : FVec Ideal S12x64 .f32) (ix2 ⟨6 + i.val, by omega⟩ j))
    ∧ (∀ i : Fin 64, (V m c main_v13 : FVec Ideal S1x64 .f32) (ix2 0 i) = (m ((c.tc : Thread nD τ).loc main_arg4) : FVec Ideal S64 .f32) (ix1 i))
    ∧ (∀ i : Fin 3, (V m c main_v14 : FVec Ideal S1x3 .f32) (ix2 0 i) = (m ((c.tc : Thread nD τ).loc main_arg6) : FVec Ideal S3 .f32) (ix1 i)) := by
  simp only [V, V0, hostOps0, List.flatten_cons, List.flatten_nil, List.append_nil]
  after_results
  clean_types
  refine ⟨fun b r f => ?_, fun b r f => ?_, fun i j => ?_, fun i j => ?_, fun i => ?_, fun i => ?_⟩ <;> pointwise

/-- The batched windows follow the point. -/
theorem index_batched (t : Fin cfg0.N) : (win0_0.index t 0 = t.val ∧ win0_0.index t 1 = 0 ∧ win0_0.index t 2 = 0) ∧ (win0_1.index t 0 = t.val ∧ win0_1.index t 1 = 0 ∧ win0_1.index t 2 = 0)
    ∧ (win0_2.index t 0 = t.val ∧ win0_2.index t 1 = 0 ∧ win0_2.index t 2 = 0) ∧ (win0_3.index t 0 = t.val ∧ win0_3.index t 1 = 0 ∧ win0_3.index t 2 = 0)
    ∧ (win0_4.index t 0 = t.val ∧ win0_4.index t 1 = 0 ∧ win0_4.index t 2 = 0) ∧ (win0_5.index t 0 = t.val ∧ win0_5.index t 1 = 0 ∧ win0_5.index t 2 = 0) := by
  revert t; decide +kernel

/-- The layers' windows stay. -/
theorem index_layers (t : Fin cfg0.N) : (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_10.index t 0 = 0 ∧ win0_10.index t 1 = 0) := by
  revert t; decide +kernel

set_option maxHeartbeats 1600000 in
/-- A point loads its batch. -/
theorem loads {W : World} (H : W.Holds (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)))
    (t : Fin cfg0.N) : (blk m c t).Holds (W.batch (⟨t.val, t.isLt⟩ : Fin 4)) := by
  obtain ⟨e0, e1, e2, e3⟩ := entry_points m c (⟨t.val, t.isLt⟩ : Fin 4)
  obtain ⟨e4, e5, e6, e7, e8, e10⟩ := entry_rest m c
  constructor
  · intro r f
    refine Eq.trans (b := (V m c main_v1 : FVec Ideal S4x2048x6 .f32) (ix3 ⟨t.val, t.isLt⟩ r f)) ?_ ((e0 r f).trans (H.h0 _ _ _ _ (by decide)))
    show iblk m c 0 t (ix3 0 r f) = _
    blk_ext [iblk, index_batched t]
  · intro r f
    refine Eq.trans (b := (V m c main_v3 : FVec Ideal S4x2048x6 .f32) (ix3 ⟨t.val, t.isLt⟩ r f)) ?_ ((e1 r f).trans (H.h0 _ _ _ _ (by decide)))
    show iblk m c 1 t (ix3 0 r f) = _
    blk_ext [iblk, index_batched t]
  · intro f r
    refine Eq.trans (b := (V m c main_v7 : FVec Ideal S4x3x2048 .f32) (ix3 ⟨t.val, t.isLt⟩ f r)) ?_ ((e2 f r).trans (H.h0 _ _ _ _ (by decide)))
    show iblk m c 2 t (ix3 0 f r) = _
    blk_ext [iblk, index_batched t]
  · intro f n
    refine Eq.trans (b := (V m c main_v8 : FVec Ideal S4x3x4096 .f32) (ix3 ⟨t.val, t.isLt⟩ f n)) ?_ ((e3 f n).trans ?_)
    · show iblk m c 3 t (ix3 0 f n) = _
      blk_ext [iblk, index_batched t]
    · show _ = ((dite _ _ _ : ℝ) : EReal)
      split
      · exact H.h0 _ _ _ _ (by decide)
      · exact H.h0 _ _ _ _ (by decide)
  · intro r f
    refine Eq.trans (b := (V m c main_v9 : FVec Ideal S4x2048x3 .f32) (ix3 ⟨t.val, t.isLt⟩ r f)) ?_ ((e4 _ r f).trans (H.h1 _ _ _))
    show iblk m c 4 t (ix3 0 r f) = _
    blk_ext [iblk, index_batched t]
  · intro r f
    refine Eq.trans (b := (V m c main_v10 : FVec Ideal S4x2048x3 .f32) (ix3 ⟨t.val, t.isLt⟩ r f)) ?_ ((e5 _ r f).trans (H.h2 _ _ _))
    show iblk m c 5 t (ix3 0 r f) = _
    blk_ext [iblk, index_batched t]
  · intro i j
    refine Eq.trans (b := (V m c main_v11 : FVec Ideal S6x64 .f32) (ix2 i j)) ?_ ((e6 i j).trans (H.h3 _ _))
    show iblk m c 6 t (ix2 i j) = _
    blk_ext [iblk, index_layers t]
  · intro i j
    refine Eq.trans (b := (V m c main_v12 : FVec Ideal S6x64 .f32) (ix2 i j)) ?_ ((e7 i j).trans (H.h3 _ _))
    show iblk m c 7 t (ix2 i j) = _
    blk_ext [iblk, index_layers t]
  · intro i
    refine Eq.trans (b := (V m c main_v13 : FVec Ideal S1x64 .f32) (ix2 0 i)) ?_ ((e8 i).trans (H.h4 _))
    show iblk m c 8 t (ix2 0 i) = _
    blk_ext [iblk, index_layers t]
  · intro i j
    refine Eq.trans (b := (m ((c.tc : Thread nD τ).loc main_arg5) : FVec Ideal S64x3 .f32) (ix2 i j)) ?_ (H.h5 i j)
    rw [← V_main_arg5 m c]
    show iblk m c 9 t (ix2 i j) = _
    blk_ext [iblk, index_layers t]
  · intro i
    refine Eq.trans (b := (V m c main_v14 : FVec Ideal S1x3 .f32) (ix2 0 i)) ?_ ((e10 i).trans (H.h6 _))
    show iblk m c 10 t (ix2 0 i) = _
    blk_ext [iblk, index_layers t]

end Loss
-- ==== Proof.Pre.lean ====
module

public import proofs.«01_k».proof.Proof.Sums
public import proofs.«01_k».proof.Proof.Gen.Pre_apart_one_nearest
public import Idealize.ShloMosaic.Lib.ReduceAll
public import Idealize.ShloMosaic.Lib.Tactic.CleanTypes

@[expose] public section
set_option maxRecDepth 16384

/-! What the precondition says of the arguments: all that is read of them is real, no squared distance is below the least the kernel lets it be, and each point near some key in some batch has one nearest. -/

noncomputable section
open Idealize.ShloMosaic Idealize.ShloMosaic.TcCoe Idealize.SL.Sem
open Cert.Pre_apart_one_nearest Cert.Pre_apart_one_nearest.Gen

namespace Loss

theorem and_bits {s : Shape} {x y : IVec s 1} {i : s.Idx} (h : andi x y i = 1#1) : x i = 1#1 ∧ y i = 1#1 := by
  have h' : x i &&& y i = 1#1 := h
  revert h'
  generalize x i = p
  generalize y i = q
  revert p q
  decide

theorem or_bits {s : Shape} {x y : IVec s 1} {i : s.Idx} (h : ori x y i = 1#1) : x i = 1#1 ∨ y i = 1#1 := by
  have h' : x i ||| y i = 1#1 := h
  revert h'
  generalize x i = p
  generalize y i = q
  revert p q
  decide

theorem of_bit {p : Prop} [Decidable p] (h : BitVec.ofBool (decide p) = 1#1) : p := by
  by_contra hp
  simp [hp] at h

/-- An array all of whose absolute values are below infinity holds real numbers. -/
theorem real_at {s : Shape} (x : FVec Ideal s .f32) (hb : S_.BroadcastsInDim s (![] : Fin 0 → Fin s.rank)) {axes : List (Fin s.rank)} (hr : s.ReducesTo axes S_) (h0 : 0 < S_.numel) (j : S_.Idx)
    (h : Host.reduce IntOp.andi (cmpf .olt (Host.absf x) (broadcastInDim s ![] hb (constant S_ .f32 0x7F800000#32))) (constantI S_ 1 1#1) hr h0 j = 1#1) (i : s.Idx) :
    x i = ((x i).toReal : EReal) := by
  have : Subsingleton S_.Idx := ⟨fun a b => funext fun d => d.elim0⟩
  have e := Host.reduce_andi_all _ _ hr h0 j h i
  have e' : BitVec.ofBool (decide (max (x i) (-(x i)) < (⊤ : EReal))) = 1#1 := by
    rw [← top_f32]
    exact e
  have l := of_bit e'
  refine (EReal.coe_toReal (fun hx => ?_) (fun hx => ?_)).symm
  · rw [hx] at l; simp at l
  · rw [hx] at l; simp at l

/-- When all but the first frame of points is real, each of its entries is. -/
theorem later_real (a : FVec Ideal S4x3x2048x6 .f32)
    (h : ∀ i, extractStridedSlice S4x2x2048x6 ![0, 1, 0, 0] a slices_S4x3x2048x6_S4x2x2048x6_0_1_0_0 i
      = ((extractStridedSlice S4x2x2048x6 ![0, 1, 0, 0] a slices_S4x3x2048x6_S4x2x2048x6_0_1_0_0 i).toReal : EReal))
    (b : Fin 4) (f : Fin 3) (r : Fin 2048) (c : Fin 6) (hf : f ≠ 0) : a (ix4 b f r c) = ((a (ix4 b f r c)).toReal : EReal) := by
  have e : ∀ g : Fin 2, extractStridedSlice S4x2x2048x6 ![0, 1, 0, 0] a slices_S4x3x2048x6_S4x2x2048x6_0_1_0_0 (ix4 b g r c) = a (ix4 b ⟨1 + g.val, by omega⟩ r c) := fun g => by
    pointwise
  have n : f.val ≠ 0 := fun z => hf (Fin.ext z)
  have k := h (ix4 b ⟨f.val - 1, by omega⟩ r c)
  rw [e, show (⟨1 + (f.val - 1), by omega⟩ : Fin 3) = f from Fin.ext (by simp only; omega)] at k
  exact k

/-- The squared distances, as the precondition prints them. -/
def preSq (a0 : FVec Ideal S4x3x2048x6 .f32) (a1 : FVec Ideal S4x1x2048x3 .f32) : FVec Ideal S4x2048x2048 .f32 :=
  maximumf (subf (addf
      (broadcastInDim S4x2048x2048 ![0, 1, 2] bcast_S4x2048x1_S4x2048x2048_0_1_2 (broadcastInDim S4x2048x1 ![0, 1] bcast_S4x2048_S4x2048x1_0_1
        (Host.reduceAdd (mulf (shapeCast S4x2048x3 a1 shapeCasts_S4x1x2048x3_S4x2048x3) (shapeCast S4x2048x3 a1 shapeCasts_S4x1x2048x3_S4x2048x3)) (constant S_ .f32 0x00000000#32) reducesTo_S4x2048x3_S4x2048_d2 h_S_)))
      (broadcastInDim S4x2048x2048 ![0, 1, 2] bcast_S4x1x2048_S4x2048x2048_0_1_2 (broadcastInDim S4x1x2048 ![0, 2] bcast_S4x2048_S4x1x2048_0_2
        (Host.reduceAdd (mulf (shapeCast S4x2048x3 (extractStridedSlice S4x1x2048x3 ![0, 1, 0, 0] a0 slices_S4x3x2048x6_S4x1x2048x3_0_1_0_0) shapeCasts_S4x1x2048x3_S4x2048x3)
          (shapeCast S4x2048x3 (extractStridedSlice S4x1x2048x3 ![0, 1, 0, 0] a0 slices_S4x3x2048x6_S4x1x2048x3_0_1_0_0) shapeCasts_S4x1x2048x3_S4x2048x3)) (constant S_ .f32 0x00000000#32) reducesTo_S4x2048x3_S4x2048_d2 h_S_))))
      (mulf (broadcastInDim S4x2048x2048 ![] bcast_S_S4x2048x2048 (constant S_ .f32 0x40000000#32))
        (Host.dotGeneral dot_S4x2048x3_S4x2048x3_S4x2048x2048_2_2_1_1_0_0 none (shapeCast S4x2048x3 a1 shapeCasts_S4x1x2048x3_S4x2048x3)
          (shapeCast S4x2048x3 (extractStridedSlice S4x1x2048x3 ![0, 1, 0, 0] a0 slices_S4x3x2048x6_S4x1x2048x3_0_1_0_0) shapeCasts_S4x1x2048x3_S4x2048x3))))
    (broadcastInDim S4x2048x2048 ![] bcast_S_S4x2048x2048 (constant S_ .f32 0x00000000#32))

/-- Their roots, away from zero. -/
def preDist (a0 : FVec Ideal S4x3x2048x6 .f32) (a1 : FVec Ideal S4x1x2048x3 .f32) : FVec Ideal S4x2048x2048 .f32 :=
  Host.sqrt (maximumf (preSq a0 a1) (broadcastInDim S4x2048x2048 ![] bcast_S_S4x2048x2048 (constant S_ .f32 0x2B8CBCCC#32)))

section At
variable {W : World} {a0 : FVec Ideal S4x3x2048x6 .f32} {a1 a2 : FVec Ideal S4x1x2048x3 .f32} {a3 : FVec Ideal S12x64 .f32} {a4 : FVec Ideal S64 .f32} {a5 : FVec Ideal S64x3 .f32} {a6 : FVec Ideal S3 .f32}
  (H : W.Holds a0 a1 a2 a3 a4 a5 a6)
include H

theorem preSq_at (b : Fin 4) (r j : Fin 2048) : preSq a0 a1 (ix3 b r j) = (max ((W.batch b).sq r (lo j)) 0 : ℝ) := by
  unfold preSq
  pointwise
  simp only [H.h0 _ 1 _ _ (by decide), H.h1, two_val, ← EReal.coe_mul, coe_sum, ← EReal.coe_add, ← EReal.coe_sub, ← EReal.coe_zero, coe_max, W.sq_lo]
  rfl

theorem preDist_at (b : Fin 4) (r j : Fin 2048) : preDist a0 a1 (ix3 b r j) = (W.dist b r j : EReal) := by
  unfold preDist
  pointwise
  rw [preSq_at H, floor12_val, coe_max, Ideal.sqrt_coe, if_neg (not_lt.2 (le_max_of_le_right (by norm_num [floor12]))), World.dist]

end At

/-- The least the precondition lets the squared distance of a key be: its number times `tiny`. -/
theorem bound_at (b : Fin 4) (r j : Fin 2048) : broadcastInDim S4x2048x2048 ![0, 1, 2] bcast_S1x1x2048_S4x2048x2048_0_1_2
      (mulf (sitofp .f32 (broadcastInDim S1x1x2048 ![2] bcast_S2048_S1x1x2048_2 (iotaInDim S2048 32 0)))
        (broadcastInDim S1x1x2048 ![] bcast_S_S1x1x2048 (constant (F := Ideal) S_ .f32 0x0DA24260#32))) (ix3 b r j) = (((j.val : ℝ) * tiny : ℝ) : EReal) := by
  have e : ∀ j : Fin 2048, (BitVec.ofNat 32 j.val).toInt = (j.val : ℤ) := by decide +kernel
  pointwise
  rw [tiny_val, EReal.coe_mul]
  simp [FloatOps.sitofp, e]

/-- A squared distance the precondition lets through is at least that. -/
theorem above_key (S T : FVec Ideal S4x2048x2048 .f32) (b : Fin 4) (r j : Fin 2048) {s t : ℝ} (hS : S (ix3 b r j) = (max s 0 : ℝ)) (hT : T (ix3 b r j) = (t : EReal)) (h0 : 0 ≤ s)
    (h : cmpf .oge S T (ix3 b r j) = 1#1) : t ≤ s := by
  have e : cmpf .oge S T (ix3 b r j) = BitVec.ofBool (decide (T (ix3 b r j) ≤ S (ix3 b r j))) := by
    pointwise
  rw [e, hT, hS, max_eq_left h0] at h
  exact EReal.coe_le_coe_iff.1 (of_bit h)

/-- A row the precondition leaves open has no key near in any batch. -/
theorem unread_at (R : FVec Ideal S4x2048 .f32) (f : Fin 4 → Fin 2048 → ℝ) (hR : ∀ b r, R (ix2 b r) = (f b r : EReal)) (b : Fin 4) (r j : Fin 2048)
    (h : broadcastInDim S4x2048x2048 ![0, 1, 2] bcast_S1x2048x1_S4x2048x2048_0_1_2 (broadcastInDim S1x2048x1 ![1] bcast_S2048_S1x2048x1_1
      (cmpf .oge (Host.reduce FloatOps.minimumf R (constant S_ .f32 0x7F800000#32) reducesTo_S4x2048_S2048_d0 h_S_)
        (broadcastInDim S2048 ![] bcast_S_S2048 (Host.divf (constant S_ .f32 0x3F800000#32) (constant S_ .f32 0x41A00000#32))))) (ix3 b r j) = 1#1) (b' : Fin 4) :
    1 / 20 ≤ f b' r := by
  have e : broadcastInDim S4x2048x2048 ![0, 1, 2] bcast_S1x2048x1_S4x2048x2048_0_1_2 (broadcastInDim S1x2048x1 ![1] bcast_S2048_S1x2048x1_1
      (cmpf .oge (Host.reduce FloatOps.minimumf R (constant S_ .f32 0x7F800000#32) reducesTo_S4x2048_S2048_d0 h_S_)
        (broadcastInDim S2048 ![] bcast_S_S2048 (Host.divf (constant S_ .f32 0x3F800000#32) (constant S_ .f32 0x41A00000#32))))) (ix3 b r j)
      = BitVec.ofBool (decide (((1 / 20 : ℝ) : EReal) ≤ ((⨅ b, f b r : ℝ) : EReal))) := by
    pointwise
    simp only [hR, top_f32, fold_min, n20_val, Ideal.div_coe (show (20 : ℝ) ≠ 0 by norm_num), one_mul]
  rw [e] at h
  exact (EReal.coe_le_coe_iff.1 (of_bit h)).trans (iInf_le_at _ b')

/-- At most one point of a row is nearest. -/
theorem one_nearest (D : FVec Ideal S4x2048x2048 .f32) (N : IVec S4x2048 32) (d : Fin 4 → Fin 2048 → Fin 2048 → ℝ) (hD : ∀ b r j, D (ix3 b r j) = (d b r j : EReal))
    (b : Fin 4) (r : Fin 2048) {j : Fin 2048} (h : cmpf .ogt D (broadcastInDim S4x2048x2048 ![0, 1, 2] bcast_S4x2048x1_S4x2048x2048_0_1_2 (broadcastInDim S4x2048x1 ![0, 1] bcast_S4x2048_S4x2048x1_0_1
          (Host.reduce FloatOps.minimumf D (constant S_ .f32 0x7F800000#32) reducesTo_S4x2048x2048_S4x2048_d2 h_S_))) (ix3 b r j) = 1#1
      ∨ cmpi .eq (broadcastInDim S4x2048x2048 ![0, 1, 2] bcast_S1x1x2048_S4x2048x2048_0_1_2 (broadcastInDim S1x1x2048 ![2] bcast_S2048_S1x1x2048_2 (iotaInDim S2048 32 0)))
          (broadcastInDim S4x2048x2048 ![0, 1, 2] bcast_S4x2048x1_S4x2048x2048_0_1_2 (broadcastInDim S4x2048x1 ![0, 1] bcast_S4x2048_S4x2048x1_0_1 N)) (ix3 b r j) = 1#1)
    (hj : d b r j = ⨅ j, d b r j) : N (ix2 b r) = BitVec.ofNat 32 j.val := by
  rcases h with e | e
  · exfalso
    have e' : cmpf .ogt D (broadcastInDim S4x2048x2048 ![0, 1, 2] bcast_S4x2048x1_S4x2048x2048_0_1_2 (broadcastInDim S4x2048x1 ![0, 1] bcast_S4x2048_S4x2048x1_0_1
          (Host.reduce FloatOps.minimumf D (constant S_ .f32 0x7F800000#32) reducesTo_S4x2048x2048_S4x2048_d2 h_S_))) (ix3 b r j)
        = BitVec.ofBool (decide (Host.reduce FloatOps.minimumf D (constant S_ .f32 0x7F800000#32) reducesTo_S4x2048x2048_S4x2048_d2 h_S_ (ix2 b r) < D (ix3 b r j))) := by
      generalize Host.reduce FloatOps.minimumf D (constant S_ .f32 0x7F800000#32) reducesTo_S4x2048x2048_S4x2048_d2 h_S_ = R
      pointwise
    rw [e', min_rows D d hD b r, hD] at e
    exact absurd hj (EReal.coe_lt_coe_iff.1 (of_bit e)).ne'
  · have e' : cmpi .eq (broadcastInDim S4x2048x2048 ![0, 1, 2] bcast_S1x1x2048_S4x2048x2048_0_1_2 (broadcastInDim S1x1x2048 ![2] bcast_S2048_S1x1x2048_2 (iotaInDim S2048 32 0)))
          (broadcastInDim S4x2048x2048 ![0, 1, 2] bcast_S4x2048x1_S4x2048x2048_0_1_2 (broadcastInDim S4x2048x1 ![0, 1] bcast_S4x2048_S4x2048x1_0_1 N)) (ix3 b r j)
        = BitVec.ofBool (decide (BitVec.ofNat 32 j.val = N (ix2 b r))) := by
      pointwise
      first | rfl | simp [IntOp.cmpi]
    rw [e'] at e
    exact (of_bit e).symm

/-- The numbers of seven arrays. -/
def worldOf (a0 : FVec Ideal S4x3x2048x6 .f32) (a1 a2 : FVec Ideal S4x1x2048x3 .f32) (a3 : FVec Ideal S12x64 .f32) (a4 : FVec Ideal S64 .f32) (a5 : FVec Ideal S64x3 .f32) (a6 : FVec Ideal S3 .f32) : World where
  X b f r c := (a0 (ix4 b f r c)).toReal
  Y0 b r c := (a1 (ix4 b 0 r c)).toReal
  Y1 b r c := (a2 (ix4 b 0 r c)).toReal
  W1 i j := (a3 (ix2 i j)).toReal
  B1 i := (a4 (ix1 i)).toReal
  W2 i j := (a5 (ix2 i j)).toReal
  B2 i := (a6 (ix1 i)).toReal

theorem of_pre (a0 : FVec Ideal S4x3x2048x6 .f32) (a1 a2 : FVec Ideal S4x1x2048x3 .f32) (a3 : FVec Ideal S12x64 .f32) (a4 : FVec Ideal S64 .f32) (a5 : FVec Ideal S64x3 .f32) (a6 : FVec Ideal S3 .f32)
    (h : fn a0 a1 a2 a3 a4 a5 a6 = fun _ => 1#1) :
    (worldOf a0 a1 a2 a3 a4 a5 a6).Holds a0 a1 a2 a3 a4 a5 a6
    ∧ (∀ b r (j : Fin 2048), (j.val : ℝ) * tiny ≤ ((worldOf a0 a1 a2 a3 a4 a5 a6).batch b).sq r (lo j))
    ∧ ∃ N : IVec S4x2048 32, ∀ b r, (worldOf a0 a1 a2 a3 a4 a5 a6).Read r → ∀ j, (worldOf a0 a1 a2 a3 a4 a5 a6).dist b r j = (⨅ j, (worldOf a0 a1 a2 a3 a4 a5 a6).dist b r j) → N (ix2 b r) = BitVec.ofNat 32 j.val := by
  have e := congrFun h
  unfold fn fn_part1 fn_part2 fn_part3 fn_part4 fn_where at e
  have H : (worldOf a0 a1 a2 a3 a4 a5 a6).Holds a0 a1 a2 a3 a4 a5 a6 := by
    obtain ⟨e5, r6⟩ := and_bits (and_bits (e (ix3 0 0 0))).2
    obtain ⟨e4, r5⟩ := and_bits e5
    obtain ⟨e3, r4⟩ := and_bits e4
    obtain ⟨e2, r3⟩ := and_bits e3
    obtain ⟨e1, r2⟩ := and_bits e2
    obtain ⟨r0, r1⟩ := and_bits e1
    exact ⟨later_real a0 fun _ => real_at _ _ _ _ _ r0 _, fun _ _ _ => real_at a1 _ _ _ _ r1 _, fun _ _ _ => real_at a2 _ _ _ _ r2 _, fun _ _ => real_at a3 _ _ _ _ r3 _,
      fun _ => real_at a4 _ _ _ _ r4 _, fun _ _ => real_at a5 _ _ _ _ r5 _, fun _ => real_at a6 _ _ _ _ r6 _⟩
  have e' := fun b r j => and_bits (and_bits (e (ix3 b r j))).1
  clear e h
  refine ⟨H, fun b r j => ?_, ?_⟩
  · exact above_key (preSq a0 a1) _ b r j (preSq_at H b r j) (bound_at b r j) (World.sq_nonneg _ b r j) (e' b r j).1
  · refine ⟨_, fun b r near j => one_nearest (preDist a0 a1) _ _ (preDist_at H) b r ((or_bits (e' b r j).2).elim or_bits fun u => ?_)⟩
    obtain ⟨b', l⟩ := near
    exact absurd l (not_lt.2 (unread_at _ _ (min_rows (preDist a0 a1) _ (preDist_at H)) b r j u b'))

end Loss
-- ==== Proof.RefPick.lean ====
module

public import proofs.«01_k».proof.Proof.Ref
public import proofs.«01_k».proof.Proof.Finish
public import proofs.«01_k».proof.Proof.Sums
public import Idealize.ShloMosaic.Lib.Tactic.CleanTypes
public import proofs.«01_k».proof.Proof.Gen.ReferenceIdeal.Run

@[expose] public section
set_option maxRecDepth 16384

/-! The reference's results as numbers. -/

noncomputable section
open Idealize.ShloMosaic Idealize.ShloMosaic.TcCoe Idealize.SL.Sem
open Cert.ReferenceIdeal Cert.ReferenceIdeal.Gen Cert.ReferenceIdeal.Value

namespace Loss

/-- The row an index picks. -/
theorem gather_at (x : FVec Ideal S4x2048x3 .f32) (ix : IVec S4x2048x1 32) (b : Fin 4) (r k : Fin 2048) (hk : ix (ix3 b r 0) = BitVec.ofNat 32 k.val) (c : Fin 3) :
    Host.gather gather_S4x2048x3_S4x2048x1_S4x2048x3_2_1_0_0_1_2_113 x ix (ix3 b r c) = x (ix3 b k c) := by
  have s1 : gather_S4x2048x3_S4x2048x1_S4x2048x3_2_1_0_0_1_2_113.start (ix3 b r c) ix 1 = min (ix (ix3 b r 0)).toInt.toNat (2048 - 1) := by
    unfold GatherDims.start
    refine (dif_pos (show (1 : Fin 3) ∈ [1] by decide)).trans ?_
    refine congrArg (fun i => min (ix i).toInt.toNat (2048 - 1)) ?_
    have e : ∀ a : Fin 3, (gather_S4x2048x3_S4x2048x1_S4x2048x3_2_1_0_0_1_2_113.siIdx (ix3 b r c) ⟨0, by decide⟩ a).val = ((ix3 b r 0 : S4x2048x1.Idx) a).val := fun a => match a with
      | ⟨0, _⟩ => rfl
      | ⟨1, _⟩ => rfl
      | ⟨2, _⟩ => rfl
    exact funext fun a => Fin.ext (e a)
  have n : ∀ j : Fin 2048, min (BitVec.ofNat 32 j.val).toInt.toNat (2048 - 1) = j.val := by decide +kernel
  have s0 : gather_S4x2048x3_S4x2048x1_S4x2048x3_2_1_0_0_1_2_113.start (ix3 b r c) ix 0 = 0 := rfl
  have s2 : gather_S4x2048x3_S4x2048x1_S4x2048x3_2_1_0_0_1_2_113.start (ix3 b r c) ix 2 = 0 := rfl
  have b0 : gather_S4x2048x3_S4x2048x1_S4x2048x3_2_1_0_0_1_2_113.batchCoord (ix3 b r c) 0 = b.val := rfl
  have b1 : gather_S4x2048x3_S4x2048x1_S4x2048x3_2_1_0_0_1_2_113.batchCoord (ix3 b r c) 1 = 0 := rfl
  have b2 : gather_S4x2048x3_S4x2048x1_S4x2048x3_2_1_0_0_1_2_113.batchCoord (ix3 b r c) 2 = 0 := rfl
  have o0 : gather_S4x2048x3_S4x2048x1_S4x2048x3_2_1_0_0_1_2_113.offCoord (ix3 b r c) 0 = 0 := rfl
  have o1 : gather_S4x2048x3_S4x2048x1_S4x2048x3_2_1_0_0_1_2_113.offCoord (ix3 b r c) 1 = 0 := rfl
  have o2 : gather_S4x2048x3_S4x2048x1_S4x2048x3_2_1_0_0_1_2_113.offCoord (ix3 b r c) 2 = c.val := rfl
  rw [hk, n] at s1
  unfold Host.gather
  congr 1
  funext a
  apply Fin.ext
  match a with
  | ⟨0, _⟩ => exact (congrArg₂ (· + ·) (congrArg₂ (· + ·) s0 b0) o0).trans (by simp)
  | ⟨1, _⟩ => exact (congrArg₂ (· + ·) (congrArg₂ (· + ·) s1 b1) o1).trans (by simp)
  | ⟨2, _⟩ => exact (congrArg₂ (· + ·) (congrArg₂ (· + ·) s2 b2) o2).trans (by simp)

theorem inside_at (ix : IVec S4x2048x1 32) (b : Fin 4) (r k : Fin 2048) (hk : ix (ix3 b r 0) = BitVec.ofNat 32 k.val) :
    Host.reduce IntOp.andi (andi (cmpi .sge ix (broadcastInDim S4x2048x1 ![] bcast_S_S4x2048x1 (constantI S_ 32 0#32))) (cmpi .sle ix (broadcastInDim S4x2048x1 ![0, 1, 2] bcast_S1x1x1_S4x2048x1_0_1_2 (broadcastInDim S1x1x1 ![2] bcast_S1_S1x1x1_2 (constantI S1 32 2047#32))))) (constantI S_ 1 1#1) reducesTo_S4x2048x1_S4x2048_d2 h_S_ (ix2 b r) = 1#1 := by
  have n : ∀ j : Fin 2048, IntOp.andi (IntOp.cmpi .sge (BitVec.ofNat 32 j.val) 0#32) (IntOp.cmpi .sle (BitVec.ofNat 32 j.val) 2047#32) = 1#1 := by decide +kernel
  pointwise
  rw [show (Finset.univ : Finset (Fin 1)) = {0} from rfl, Finset.fold_singleton, hk, n]
  rfl

theorem fold_mark (k : Fin 2048) :
    Finset.univ.fold IntOp.minsi 2147483647#32 (fun j : Fin 2048 => if j = k then BitVec.ofNat 32 j.val else 2048#32) = BitVec.ofNat 32 k.val := by
  classical
  have n : ∀ j : Fin 2048, IntOp.minsi (BitVec.ofNat 32 j.val) (IntOp.minsi 2147483647#32 2048#32) = BitVec.ofNat 32 j.val
      ∧ IntOp.minsi (BitVec.ofNat 32 j.val) 2147483647#32 = BitVec.ofNat 32 j.val := by decide +kernel
  rw [← Finset.insert_erase (Finset.mem_univ k), Finset.fold_insert (Finset.notMem_erase k _), if_pos rfl,
    Finset.fold_congr (g := fun _ => 2048#32) (fun j h => if_neg (Finset.ne_of_mem_erase h)),
    Finset.fold_const _ (by decide)]
  split
  · exact (n k).2
  · exact (n k).1

theorem first_at (X : FVec Ideal S4x2048x2048 .f32) (f : Fin 4 → Fin 2048 → Fin 2048 → ℝ) (hX : ∀ b r j, X (ix3 b r j) = (f b r j : EReal))
    (b : Fin 4) (r k : Fin 2048) (hk : ∀ j, f b r j = (⨅ j, f b r j) ↔ j = k) :
    broadcastInDim S4x2048x1 ![0, 1] bcast_S4x2048_S4x2048x1_0_1 (Host.reduce IntOp.minsi (select (cmpf .oeq X (broadcastInDim S4x2048x2048 ![0, 1, 2] bcast_S4x2048x1_S4x2048x2048_0_1_2 (broadcastInDim S4x2048x1 ![0, 1] bcast_S4x2048_S4x2048x1_0_1 (Host.reduce FloatOps.minimumf X (constant S_ .f32 0x7F800000#32) reducesTo_S4x2048x2048_S4x2048_d2 h_S_)))) (broadcastInDim S4x2048x2048 ![0, 1, 2] bcast_S1x1x2048_S4x2048x2048_0_1_2 (broadcastInDim S1x1x2048 ![2] bcast_S2048_S1x1x2048_2 (iotaInDim S2048 32 0))) (broadcastInDim S4x2048x2048 ![] bcast_S_S4x2048x2048 (id (constantI S_ 32 2048#32)))) (constantI S_ 32 2147483647#32) reducesTo_S4x2048x2048_S4x2048_d2 h_S_) (ix3 b r 0) = BitVec.ofNat 32 k.val := by
  pointwise
  simp only [hX, top_f32, fold_min, EReal.coe_eq_coe_iff, hk]
  exact fold_mark k

theorem wrapped_at (ix : IVec S4x2048x1 32) (b : Fin 4) (r k : Fin 2048) (hk : ix (ix3 b r 0) = BitVec.ofNat 32 k.val) :
    select (cmpi .slt ix (broadcastInDim S4x2048x1 ![] bcast_S_S4x2048x1 (constantI S_ 32 0#32))) (addi ix (broadcastInDim S4x2048x1 ![] bcast_S_S4x2048x1 (constantI S_ 32 2048#32))) ix (ix3 b r 0) = BitVec.ofNat 32 k.val := by
  have n : ∀ j : Fin 2048, Scalar.select (IntOp.cmpi .slt (BitVec.ofNat 32 j.val) 0#32) (IntOp.addi (BitVec.ofNat 32 j.val) 2048#32) (BitVec.ofNat 32 j.val) = BitVec.ofNat 32 j.val := by decide +kernel
  pointwise
  rw [hk, n]

theorem picked_at (R : IVec S4x2048 1) (g : FVec Ideal S4x2048x3 .f32) (b : Fin 4) (r : Fin 2048) (hR : R (ix2 b r) = 1#1) (c : Fin 3) :
    select (broadcastInDim S4x2048x3 ![0, 1] bcast_S4x2048_S4x2048x3_0_1 R) g (broadcastInDim S4x2048x3 ![] bcast_S_S4x2048x3 (constant S_ .f32 0x7FC00000#32)) (ix3 b r c) = g (ix3 b r c) := by
  pointwise
  rw [hR]
  rfl

theorem dyn_at {W : World} (y0 y1 : FVec Ideal S4x1x2048x3 .f32) (mc : FVec Ideal S4x1x1x1 .f32) (mk : FVec Ideal S4x1x2048x1 .f32) (G : FVec Ideal S4x2048x3 .f32)
    (h0 : ∀ b r c, y0 (ix4 b 0 r c) = (W.Y0 b r c : EReal)) (h1 : ∀ b r c, y1 (ix4 b 0 r c) = (W.Y1 b r c : EReal))
    (C : Fin 4 → ℝ) (hC : ∀ b, mc (ix4 b 0 0 0) = (C b : EReal)) (K : Fin 4 → Fin 2048 → ℝ) (hK : ∀ b r, mk (ix4 b 0 r 0) = (K b r : EReal))
    (M : Fin 4 → Fin 2048 → Fin 3 → ℝ) (b b' : Fin 4) (r : Fin 2048) (c : Fin 3) (hG : K b r ≠ 0 → G (ix3 b' r c) = (M b' r c : EReal)) :
    subf (broadcastInDim S4x4x2048x3 ![0, 1, 2, 3] bcast_S4x1x2048x3_S4x4x2048x3_0_1_2_3 (mulf (mulf (subf y1 y0) (broadcastInDim S4x1x2048x3 ![0, 1, 2, 3] bcast_S4x1x1x1_S4x1x2048x3_0_1_2_3 mc)) (broadcastInDim S4x1x2048x3 ![0, 1, 2, 3] bcast_S4x1x2048x1_S4x1x2048x3_0_1_2_3 mk))) (mulf (mulf (broadcastInDim S4x4x2048x3 ![0, 1, 2, 3] bcast_S1x4x2048x3_S4x4x2048x3_0_1_2_3 (broadcastInDim S1x4x2048x3 ![1, 2, 3] bcast_S4x2048x3_S1x4x2048x3_1_2_3 G)) (broadcastInDim S4x4x2048x3 ![0, 1, 2, 3] bcast_S4x1x1x1_S4x4x2048x3_0_1_2_3 mc)) (broadcastInDim S4x4x2048x3 ![0, 1, 2, 3] bcast_S4x1x2048x1_S4x4x2048x3_0_1_2_3 mk)) (ix4 b b' r c) = (((W.batch b).dy r c * C b * K b r - M b' r c * C b * K b r : ℝ) : EReal) := by
  pointwise
  simp only [h0, h1, hC, hK]
  by_cases n : K b r = 0
  · simp only [n, EReal.coe_zero, mul_zero, sub_zero]
  · simp only [hG n, ← EReal.coe_sub, ← EReal.coe_mul]
    rfl

theorem flat_at (x : FVec Ideal S4x1x2048x3 .f32) (b : Fin 4) (r : Fin 2048) (c : Fin 3) :
    shapeCast S4x2048x3 x shapeCasts_S4x1x2048x3_S4x2048x3 (ix3 b r c) = x (ix4 b 0 r c) := by
  pointwise

/-- The places of a four-axis array, by their coordinates. -/
def places {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := funext fun a => match a with
    | ⟨0, _⟩ => rfl
    | ⟨1, _⟩ => rfl
    | ⟨2, _⟩ => rfl
    | ⟨3, _⟩ => rfl
  right_inv p := rfl

/-- A sum over a four-axis array, axis by axis. -/
theorem sum_places {n0 n1 n2 n3 : Nat} (f : (⟨4, ![n0, n1, n2, n3]⟩ : Shape).Idx → EReal) :
    ∑ i, f i = ∑ a, ∑ b, ∑ c, ∑ d, f (ix4 a b c d) := by
  rw [← Equiv.sum_comp places.symm f]
  simp only [Fintype.sum_prod_type]
  rfl

theorem mean4_at (X : FVec Ideal S4x4x2048x3 .f32) (f : Fin 4 → Fin 4 → Fin 2048 → Fin 3 → ℝ) (hX : ∀ b b' r c, X (ix4 b b' r c) = (f b b' r c : EReal)) (i : S_.Idx) :
    Host.divf (Host.reduceAdd (mulf X X) (constant S_ .f32 0x00000000#32) reducesTo_S4x4x2048x3_S_d0_1_2_3 h_S_) (constant S_ .f32 0x47C00000#32) i
      = (((∑ b, ∑ b', ∑ r, ∑ c, f b b' r c * f b b' r c) / 98304 : ℝ) : EReal) := by
  have e : Ideal.hostReduceAdd reducesTo_S4x4x2048x3_S_d0_1_2_3 (mulf X X) 0 i = 0 + ∑ i, mulf X X i := Ideal.hostReduceAdd_total _ (by decide) _ _ _
  rw [sum_places] at e
  pointwise
  rw [e]
  pointwise
  simp only [hX, n98304_val, ← EReal.coe_mul, coe_sum, zero_add, Ideal.div_coe (show (98304 : ℝ) ≠ 0 by norm_num), ← div_eq_mul_one_div]

theorem mean1_at (X : FVec Ideal S4x1x2048x3 .f32) (f : Fin 4 → Fin 2048 → Fin 3 → ℝ) (hX : ∀ b r c, X (ix4 b 0 r c) = (f b r c : EReal)) (i : S_.Idx) :
    Host.divf (Host.reduceAdd (mulf X X) (constant S_ .f32 0x00000000#32) reducesTo_S4x1x2048x3_S_d0_1_2_3 h_S_) (constant S_ .f32 0x46C00000#32) i
      = (((∑ b, ∑ r, ∑ c, f b r c * f b r c) / 24576 : ℝ) : EReal) := by
  have e : Ideal.hostReduceAdd reducesTo_S4x1x2048x3_S_d0_1_2_3 (mulf X X) 0 i = 0 + ∑ i, mulf X X i := Ideal.hostReduceAdd_total _ (by decide) _ _ _
  rw [sum_places] at e
  pointwise
  rw [e]
  pointwise
  simp only [Fin.sum_univ_one, Fin.isValue, hX, n24576_val, ← EReal.coe_mul, coe_sum, zero_add, Ideal.div_coe (show (24576 : ℝ) ≠ 0 by norm_num), ← div_eq_mul_one_div]

section Ref
variable {W : World} {V0 : Valuation τ sig (Elt Ideal)}
  (H : W.Holds (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)))
include H
variable (k : Fin 4 → Fin 2048 → Fin 2048)

theorem ref_v113 (b : Fin 4) (r : Fin 2048) (hk : ∀ j, W.dist b r j = (⨅ j, W.dist b r j) ↔ j = k b r) : res_main_v113 V0 (ix3 b r 0) = BitVec.ofNat 32 (k b r).val := by
  unfold res_main_v113
  exact first_at (res_main_v69 V0) _ (ref_v69 H) b r (k b r) hk

theorem ref_call1_v4 (b : Fin 4) (r : Fin 2048) (hk : ∀ j, W.dist b r j = (⨅ j, W.dist b r j) ↔ j = k b r) : res_main_call1_v4 V0 (ix3 b r 0) = BitVec.ofNat 32 (k b r).val := by
  unfold res_main_call1_v4
  exact wrapped_at (res_main_v113 V0) b r (k b r) (ref_v113 H k b r hk)

theorem ref_v154 (hk : ∀ b r, W.Read r → ∀ j, W.dist b r j = (⨅ j, W.dist b r j) ↔ j = k b r) (b b' : Fin 4) (r : Fin 2048) (c : Fin 3) : res_main_v154 V0 (ix4 b b' r c)
    = (((W.batch b).dy r c * (W.batch b).mc * (if (⨅ j, W.dist b r j) < 1 / 20 then 1 else 0)
        - (W.batch b').mv (k b' r) c * (W.batch b).mc * (if (⨅ j, W.dist b r j) < 1 / 20 then 1 else 0) : ℝ) : EReal) := by
  unfold res_main_v154
  refine dyn_at (V0 (Proc.devRef .tc main_arg1)) (V0 (Proc.devRef .tc main_arg2)) (res_main_v49 V0) (res_main_v106 V0) _ H.h1 H.h2
    (fun b => (W.batch b).mc) (ref_v49 H) (fun b r => if (⨅ j, W.dist b r j) < 1 / 20 then 1 else 0) (ref_v106 H)
    (fun b r c => (W.batch b).mv (k b r) c) b b' r c (fun n => ?_)
  have near : W.Read r := ⟨b, by_contra fun h => n (if_neg h)⟩
  have e := ref_call1_v4 H k b' r (hk b' r near)
  refine (picked_at _ _ b' r (inside_at (res_main_call1_v4 V0) b' r (k b' r) e) c).trans ((gather_at _ (res_main_call1_v4 V0) b' r (k b' r) e c).trans ?_)
  exact (flat_at (res_main_v16 V0) b' (k b' r) c).trans (ref_v16 H b' (k b' r) c)

end Ref
end Loss
-- ==== Proof.RefStatic.lean ====
module

public import proofs.«01_k».proof.Proof.Ref
public import proofs.«01_k».proof.Proof.Finish
public import Idealize.ShloMosaic.Lib.Tactic.CleanTypes
public import proofs.«01_k».proof.Proof.Gen.ReferenceIdeal.Run

@[expose] public section
set_option maxRecDepth 16384

/-! The reference's results as numbers. -/

noncomputable section
open Idealize.ShloMosaic Idealize.ShloMosaic.TcCoe Idealize.SL.Sem
open Cert.ReferenceIdeal Cert.ReferenceIdeal.Gen Cert.ReferenceIdeal.Value

namespace Loss

theorem below_tenth (X : FVec Ideal S4x2048 .f32) (f : Fin 4 → Fin 2048 → ℝ) (hX : ∀ b j, X (ix2 b j) = (f b j : EReal)) (b : Fin 4) (j : Fin 2048) :
    cmpf .olt X (broadcastInDim S4x2048 ![] bcast_S_S4x2048 (constant S_ .f32 0x3DCCCCCD#32)) (ix2 b j) = BitVec.ofBool (decide (f b j < tenth)) := by
  pointwise
  simp only [hX, tenth_val, EReal.coe_lt_coe_iff]

theorem root_at {W : World} (q : FVec Ideal S4x2048x3 .f32) (k : FVec Ideal S4x4096x3 .f32)
    (hq : ∀ b r c, q (ix3 b r c) = (W.Y0 b r c : EReal)) (hk : ∀ b n c, k (ix3 b n c) = ((W.batch b).KC c n : EReal)) (b : Fin 4) (r : Fin 2048) (n : Fin 4096) :
    Host.sqrt (maximumf (maximumf (subf (addf (broadcastInDim S4x2048x4096 ![0, 1, 2] bcast_S4x2048x1_S4x2048x4096_0_1_2 (broadcastInDim S4x2048x1 ![0, 1] bcast_S4x2048_S4x2048x1_0_1 (Host.reduceAdd (mulf q q) (constant S_ .f32 0x00000000#32) reducesTo_S4x2048x3_S4x2048_d2 h_S_))) (broadcastInDim S4x2048x4096 ![0, 1, 2] bcast_S4x1x4096_S4x2048x4096_0_1_2 (broadcastInDim S4x1x4096 ![0, 2] bcast_S4x4096_S4x1x4096_0_2 (Host.reduceAdd (mulf k k) (constant S_ .f32 0x00000000#32) reducesTo_S4x4096x3_S4x4096_d2 h_S_)))) (mulf (broadcastInDim S4x2048x4096 ![] bcast_S_S4x2048x4096 (constant S_ .f32 0x40000000#32)) (Host.dotGeneral dot_S4x2048x3_S4x4096x3_S4x2048x4096_2_2_1_1_0_0 none q k))) (broadcastInDim S4x2048x4096 ![] bcast_S_S4x2048x4096 (constant S_ .f32 0x00000000#32))) (broadcastInDim S4x2048x4096 ![] bcast_S_S4x2048x4096 (constant S_ .f32 0x2B8CBCCC#32))) (ix3 b r n) = ((√(max (max ((W.batch b).sq r n) 0) floor12) : ℝ) : EReal) := by
  pointwise
  simp only [hq, hk, two_val, floor12_val, ← EReal.coe_mul, coe_sum, ← EReal.coe_add, ← EReal.coe_sub, ← EReal.coe_zero, coe_max]
  rw [Ideal.sqrt_coe, if_neg (not_lt.2 (le_max_of_le_right (by norm_num [floor12]))), Batch.sq]
  congr 4
  simp only [show ∀ c, (W.batch b).Y0 r c = W.Y0 b r c from fun _ => rfl, Fin.sum_univ_three]
  ring

/-- The least entry of a wide row. -/
theorem min_wide (X : FVec Ideal S4x2048x4096 .f32) (f : Fin 4 → Fin 2048 → Fin 4096 → ℝ) (hX : ∀ b r j, X (ix3 b r j) = (f b r j : EReal)) (b : Fin 4) (r : Fin 2048) :
    Host.reduce FloatOps.minimumf X (constant S_ .f32 0x7F800000#32) reducesTo_S4x2048x4096_S4x2048_d2 h_S_ (ix2 b r) = ((⨅ j, f b r j : ℝ) : EReal) := by
  pointwise
  simp only [hX, top_f32, fold_min]

theorem static_at {W : World} (y0 y1 : FVec Ideal S4x1x2048x3 .f32) (D : FVec Ideal S4x2048 .f32) (f : Fin 4 → Fin 2048 → ℝ)
    (h0 : ∀ b r c, y0 (ix4 b 0 r c) = (W.Y0 b r c : EReal)) (h1 : ∀ b r c, y1 (ix4 b 0 r c) = (W.Y1 b r c : EReal))
    (hD : ∀ b r, D (ix2 b r) = (f b r : EReal)) (b : Fin 4) (r : Fin 2048) (c : Fin 3) :
    mulf (subf y1 y0) (broadcastInDim S4x1x2048x3 ![0, 1, 2, 3] bcast_S4x1x2048x1_S4x1x2048x3_0_1_2_3 (broadcastInDim S4x1x2048x1 ![0, 2] bcast_S4x2048_S4x1x2048x1_0_2 (uitofp .f32 (cmpf .ogt D (broadcastInDim S4x2048 ![] bcast_S_S4x2048 (Host.divf (constant S_ .f32 0x3F800000#32) (constant S_ .f32 0x40A00000#32))))))) (ix4 b 0 r c)
      = (((W.batch b).dy r c * if 1 / 5 < f b r then 1 else 0 : ℝ) : EReal) := by
  pointwise
  simp only [h0, h1, hD, n5_val, Ideal.div_coe (show (5 : ℝ) ≠ 0 by norm_num), one_mul, EReal.coe_lt_coe_iff, ← EReal.coe_sub]
  rw [show (W.batch b).dy r c = W.Y1 b r c - W.Y0 b r c from rfl, EReal.coe_mul, indicator_u]

section Ref
variable {W : World} {V0 : Valuation τ sig (Elt Ideal)}
  (H : W.Holds (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)))
include H
theorem ref_v135 (b : Fin 4) (j : Fin 2048) : res_main_v135 V0 (ix2 b j) = BitVec.ofBool (decide ((⨅ r, max ((W.batch b).sq r (lo j)) 0) < tenth)) := by
  unfold res_main_v135
  exact below_tenth (res_main_v132 V0) _ (ref_v132 H) b j

theorem ref_v72 (b : Fin 4) (n : Fin 4096) (c : Fin 3) : res_main_v72 V0 (ix3 b n c) = ((W.batch b).KC c n : EReal) := by
  unfold res_main_v72
  clean_types
  pointwise
  have e1 : ∀ j, res_main_v17 V0 (ix4 b 0 j c) = (W.pos b 1 j c : EReal) := fun j => by
    unfold res_main_v17
    clean_types
    pointwise
    exact ref_v0 H _ _ _ _
  have e2 : ∀ j, res_main_v18 V0 (ix4 b 0 j c) = (W.pos b 2 j c : EReal) := fun j => by
    unfold res_main_v18
    clean_types
    pointwise
    exact ref_v0 H _ _ _ _
  simp only [e1, e2]
  by_cases h : n.val < 2048 <;> simp [h, World.batch]

theorem ref_v160 (b : Fin 4) (r : Fin 2048) (c : Fin 3) : res_main_v160 V0 (ix4 b 0 r c)
    = (((W.batch b).dy r c * if 1 / 5 < ⨅ n, √(max (max ((W.batch b).sq r n) 0) floor12) then 1 else 0 : ℝ) : EReal) := by
  unfold res_main_v160
  exact static_at (V0 (Proc.devRef .tc main_arg1)) (V0 (Proc.devRef .tc main_arg2)) _ _ H.h1 H.h2
    (min_wide _ _ (root_at (res_main_v73 V0) (res_main_v72 V0) (ref_v73 H) (ref_v72 H))) b r c

end Ref
end Loss
-- ==== Proof.RefSum.lean ====
module

public import proofs.«01_k».proof.Proof.RefPick
public import proofs.«01_k».proof.Proof.RefStatic
public import proofs.«01_k».proof.Proof.Sums
public import proofs.«01_k».proof.Proof.Finish
public import Idealize.ShloMosaic.Lib.Tactic.CleanTypes
public import proofs.«01_k».proof.Proof.Gen.ReferenceIdeal.Run

@[expose] public section
set_option maxRecDepth 16384

/-! The reference's results as numbers. -/

noncomputable section
open Idealize.ShloMosaic Idealize.ShloMosaic.TcCoe Idealize.SL.Sem
open Cert.ReferenceIdeal Cert.ReferenceIdeal.Gen Cert.ReferenceIdeal.Value

namespace Loss

theorem marked_at (D : FVec Ideal S4x2048 .f32) (P : IVec S4x2048 1) (f : Fin 4 → Fin 2048 → ℝ) (hD : ∀ b j, D (ix2 b j) = (f b j : EReal))
    (hP : ∀ b j, P (ix2 b j) = BitVec.ofBool (decide (f b j < tenth))) (i : S_.Idx) :
    Host.divf (Host.reduceAdd (select P D (broadcastInDim S4x2048 ![] bcast_S_S4x2048 (id (constant S_ .f32 0x00000000#32)))) (constant S_ .f32 0x00000000#32) reducesTo_S4x2048_S_d0_1 h_S_) (maximumf (Host.reduceAdd (uitofp .f32 P) (constant S_ .f32 0x00000000#32) reducesTo_S4x2048_S_d0_1 h_S_) (constant S_ .f32 0x3F800000#32)) i
      = (((∑ b, ∑ j, (if f b j < tenth then 1 else 0) * f b j) / max (∑ b, ∑ j, (if f b j < tenth then 1 else 0)) 1 : ℝ) : EReal) := by
  have h : max (∑ b, ∑ j, (if f b j < tenth then 1 else 0 : ℝ)) 1 ≠ 0 := ne_of_gt (lt_of_lt_of_le one_pos (le_max_right _ _))
  pointwise
  have z : id (constant S_ FTy.f32 0#32 : FVec Ideal S_ .f32) ix0 = ((0 : ℝ) : EReal) := by
    rw [id]
    pointwise
    rfl
  simp only [hP, hD, z, select_ite, coe_ite, indicator_u, coe_sum]
  rw [show (1 : EReal) = ((1 : ℝ) : EReal) from rfl, coe_max, Ideal.div_coe h, ← EReal.coe_mul, ← div_eq_mul_one_div]
  simp only [ite_mul, one_mul, zero_mul]

section Ref
variable {W : World} {V0 : Valuation τ sig (Elt Ideal)}
  (H : W.Holds (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)))
include H

theorem ref_static (i : S_.Idx) :
    Host.divf (Host.reduceAdd (mulf (res_main_v160 V0) (res_main_v160 V0)) (constant S_ .f32 0x00000000#32) reducesTo_S4x1x2048x3_S_d0_1_2_3 h_S_) (constant S_ .f32 0x46C00000#32) i
      = (W.static : EReal) := by
  rw [W.static_eq]
  exact mean1_at (res_main_v160 V0) _ (ref_v160 H) i

theorem ref_nearness (A : ∀ b, (W.batch b).Apart) (i : S_.Idx) :
    Host.divf (Host.reduceAdd (select (res_main_v135 V0) (res_main_v132 V0) (broadcastInDim S4x2048 ![] bcast_S_S4x2048 (id (constant S_ .f32 0x00000000#32)))) (constant S_ .f32 0x00000000#32) reducesTo_S4x2048_S_d0_1 h_S_) (maximumf (Host.reduceAdd (uitofp .f32 (res_main_v135 V0)) (constant S_ .f32 0x00000000#32) reducesTo_S4x2048_S_d0_1 h_S_) (constant S_ .f32 0x3F800000#32)) i
      = (W.nearness : EReal) := by
  refine (marked_at (res_main_v132 V0) (res_main_v135 V0) _ (ref_v132 H) (ref_v135 H) i).trans ?_
  have p : ∀ b r j, max ((W.batch b).sq r (lo j)) 0 = (W.batch b).sq r (lo j) := fun b r j =>
    max_eq_left (le_trans (mul_nonneg (Nat.cast_nonneg _) (by norm_num [tiny])) ((A b).above r j))
  rw [World.nearness, W.keptS_eq.2.2.1, W.keptS_eq.2.2.2]
  simp only [p]
  rfl

theorem ref_dynamic (k : Fin 4 → Fin 2048 → Fin 2048) (hk : ∀ b r, W.Read r → ∀ j, W.dist b r j = (⨅ j, W.dist b r j) ↔ j = k b r)
    (hn : ∀ b r, W.Read r → ∀ c, (W.batch b).nm r c = (W.batch b).mv (k b r) c) (i : S_.Idx) :
    Host.divf (Host.reduceAdd (mulf (res_main_v154 V0) (res_main_v154 V0)) (constant S_ .f32 0x00000000#32) reducesTo_S4x4x2048x3_S_d0_1_2_3 h_S_) (constant S_ .f32 0x47C00000#32) i
      = (W.dynamic : EReal) := by
  rw [W.dynamic_eq k hn]
  exact mean4_at (res_main_v154 V0) _ (ref_v154 H k hk) i

end Ref
end Loss
-- ==== Proof.Equal.lean ====
module

public import proofs.«01_k».proof.Defs
public import proofs.«01_k».proof.Proof.Tail
public import proofs.«01_k».proof.Proof.Links
public import proofs.«01_k».proof.Proof.Pre
public import proofs.«01_k».proof.Proof.RefSum

@[expose] public section
set_option maxRecDepth 16384

/-! The kernel and the reference end with the same three numbers. -/

noncomputable section
open Idealize.ShloMosaic Idealize.ShloMosaic.TcCoe Idealize.SL.Sem

namespace Loss

/-- A nearest point of each row. -/
def World.pick (W : World) (b : Fin 4) (r : Fin 2048) : Fin 2048 := Classical.choose (iInf_attained fun j => W.dist b r j)

theorem World.pick_spec (W : World) (b : Fin 4) (r : Fin 2048) : W.dist b r (W.pick b r) = ⨅ j, W.dist b r j :=
  Classical.choose_spec (iInf_attained fun j => W.dist b r j)

/-- When every nearest point of a row has the same number, the picked one is the only one. -/
theorem World.pick_iff (W : World) {N : IVec ⟨2, ![4, 2048]⟩ 32} {b : Fin 4} {r : Fin 2048} (h : ∀ j, W.dist b r j = (⨅ j, W.dist b r j) → N (ix2 b r) = BitVec.ofNat 32 j.val)
    (j : Fin 2048) : W.dist b r j = (⨅ j, W.dist b r j) ↔ j = W.pick b r := by
  refine ⟨fun e => ?_, fun e => e ▸ W.pick_spec b r⟩
  have n := congrArg BitVec.toNat ((h j e).symm.trans (h _ (W.pick_spec b r)))
  have := j.isLt
  have := (W.pick b r).isLt
  simp only [BitVec.toNat_ofNat] at n
  exact Fin.ext (by omega)

theorem World.dist_mono (W : World) {b : Fin 4} {r i j : Fin 2048} (h : (W.batch b).sq r (lo i) ≤ (W.batch b).sq r (lo j)) : W.dist b r i ≤ W.dist b r j :=
  Real.sqrt_le_sqrt (max_le_max_right _ (max_le_max_right _ h))

/-- With one nearest point, the sum of the nearest motions is the picked one's. -/
theorem World.nm_pick (W : World) {b : Fin 4} {r : Fin 2048} (hk : ∀ j, W.dist b r j = (⨅ j, W.dist b r j) ↔ j = W.pick b r) (c : Fin 3) :
    (W.batch b).nm r c = (W.batch b).mv (W.pick b r) c := by
  have only : ∀ i, (W.batch b).sq r (lo i) = (W.batch b).near r → i = W.pick b r := fun i e =>
    (hk i).1 (le_antisymm (le_ciInf fun j => W.dist_mono (e.trans_le (iInf_le_at _ j))) (iInf_le_at _ i))
  have one : ∀ j, (W.batch b).sq r (lo j) = (W.batch b).near r ↔ j = W.pick b r := fun j => by
    obtain ⟨i, hi⟩ := iInf_attained fun j => (W.batch b).sq r (lo j)
    refine ⟨only j, fun e => ?_⟩
    rw [e, ← only i hi]
    exact hi
  simp [Batch.nm, one]

theorem algebraic : Cert.algebraic_KernelIdeal_ReferenceIdeal_pre_apart_one_nearest := by
  intro m g m' g' hpre hagree
  let W (c : Dev Cert.KernelIdeal.nD) : World := worldOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6))
  have P := fun c => of_pre _ _ _ _ _ _ _ (hpre c)
  have K : ∀ c b r, (W c).Read r → ∀ j, (W c).dist b r j = (⨅ j, (W c).dist b r j) ↔ j = (W c).pick b r := fun c b r near => by
    obtain ⟨N, hN⟩ := (P c).2.2
    exact (W c).pick_iff (hN b r near)
  have A : ∀ c b, ((W c).batch b).Apart := fun c b => ⟨(P c).2.1 b⟩
  refine ⟨fun c _ => ((W c).dynamic : EReal), fun c _ => ((W c).static : EReal), fun c _ => ((W c).nearness : EReal), ?_, ?_⟩
  · exact (θ_run Cert.KernelIdeal.defs _ _).mono (fun r h c => ⟨(h.1 c).1, (h.1 c).2.1, (h.1 c).2.2, h.2 c⟩)
      (θ_run_and (kernel_run m g W (fun c t => loads m c (P c).1 t) A) (Cert.KernelIdeal.Gen.unchanged m g))
  · refine (θ_run Cert.ReferenceIdeal.defs _ _).mono (fun r h c => ?_) (Cert.ReferenceIdeal.Value.run (F := Ideal) m' g')
    obtain ⟨h0, h1, h2, args⟩ := h c
    obtain ⟨e0, e1, e2, e3, e4, e5, e6⟩ := hagree c
    have H : (W c).Holds _ _ _ _ _ _ _ := (P c).1
    clear_value W
    rw [← e0, ← e1, ← e2, ← e3, ← e4, ← e5, ← e6] at H
    exact ⟨h0.trans (funext (ref_dynamic H (W c).pick (K c) fun b r near c' => (W c).nm_pick (K c b r near) c')), h1.trans (funext (ref_static H)), h2.trans (funext (ref_nearness H (A c))), args⟩

end Loss
-- ==== Proof.lean ====
module

public import proofs.«01_k».proof.Proof.Equal
public import proofs.«01_k».proof.Proof.Gen.Pre_apart_one_nearest
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference's run, read at its arguments; it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The two named thresholds at the numbers of their words. -/
theorem preserves : Cert.preserves_Kernel_KernelIdeal :=
  ⟨IdealRules.named_const.statement _ _ _ _ _ rfl, IdealRules.named_const.statement _ _ _ _ _ rfl⟩

theorem claim : Cert.Claim := ⟨Cert.Kernel.Gen.facts, Cert.KernelIdeal.Gen.facts, Cert.ReferenceIdeal.Gen.facts, Cert.Pre_apart_one_nearest.Gen.facts,
  fun m ρ _ => Cert.Kernel.Gen.frame m ρ, fun m ρ _ => Cert.KernelIdeal.Gen.frame m ρ, fun m ρ _ => Cert.KernelIdeal.Gen.frame m ρ, frame_reference,
  fun m ρ _ => frame_reference m ρ trivial, preserves, Loss.algebraic⟩

end Cert.Proof

end
